-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S8192x2048 : Shape := ⟨2, ![8192, 2048]⟩
abbrev S2048x8192 : Shape := ⟨2, ![2048, 8192]⟩
abbrev S8x2048 : Shape := ⟨2, ![8, 2048]⟩
abbrev S64x2048 : Shape := ⟨2, ![64, 2048]⟩
abbrev S4096x2048 : Shape := ⟨2, ![4096, 2048]⟩
abbrev S4096x64 : Shape := ⟨2, ![4096, 64]⟩
abbrev S1024x2048 : Shape := ⟨2, ![1024, 2048]⟩
abbrev S4096x8 : Shape := ⟨2, ![4096, 8]⟩
abbrev S1024x8 : Shape := ⟨2, ![1024, 8]⟩
abbrev S1024x64 : Shape := ⟨2, ![1024, 64]⟩
abbrev S8 : Shape := ⟨1, ![8]⟩
abbrev S1x8 : Shape := ⟨2, ![1, 8]⟩
abbrev S4096 : Shape := ⟨1, ![4096]⟩
abbrev S4096x1 : Shape := ⟨2, ![4096, 1]⟩
abbrev S8x64 : Shape := ⟨2, ![8, 64]⟩
abbrev S512x2048 : Shape := ⟨2, ![512, 2048]⟩
abbrev S2048x512 : Shape := ⟨2, ![2048, 512]⟩
abbrev S1024x512 : Shape := ⟨2, ![1024, 512]⟩

abbrev nBuf : Space → Nat
  | .hbm => 13
  | .vmem => 24
  | .smem => 0
  | _ => 0

abbrev bufTy : (tb : Table) → Fin (tcTables nBuf tb) → BufTy
  | .hbm, ⟨0, _⟩ => ⟨S1x4096x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8x2048, .f32⟩
  | .hbm, ⟨5, _⟩ => ⟨S8x2048, .f32⟩
  | .hbm, ⟨6, _⟩ => ⟨S64x2048, .f32⟩
  | .hbm, ⟨7, _⟩ => ⟨S64x2048, .f32⟩
  | .hbm, ⟨8, _⟩ => ⟨S4096x2048, .f32⟩
  | .hbm, ⟨9, _⟩ => ⟨S4096x2048, .bf16⟩
  | .hbm, ⟨10, _⟩ => ⟨S4096x64, .bf16⟩
  | .hbm, ⟨11, _⟩ => ⟨S4096x2048, .f32⟩
  | .hbm, ⟨12, _⟩ => ⟨S1x4096x2048, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S64x2048, .f32⟩
  | .local _ .vmem, ⟨5, _⟩ => ⟨S1024x2048, .bf16⟩
  | .local _ .vmem, ⟨6, _⟩ => ⟨S1024x2048, .bf16⟩
  | .local _ .vmem, ⟨7, _⟩ => ⟨S4096x64, .bf16⟩
  | .local _ .vmem, ⟨8, _⟩ => ⟨S4096x8, .f32⟩
  | .local _ .vmem, ⟨9, _⟩ => ⟨S4096x8, .f32⟩
  | .local _ .vmem, ⟨10, _⟩ => ⟨S4096x64, .f32⟩
  | .local _ .vmem, ⟨11, _⟩ => ⟨S1024x2048, .bf16⟩
  | .local _ .vmem, ⟨12, _⟩ => ⟨S1024x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S2048x512, .f32⟩
  | .local _ .vmem, ⟨18, _⟩ => ⟨S2048x512, .f32⟩
  | .local _ .vmem, ⟨19, _⟩ => ⟨S1024x64, .bf16⟩
  | .local _ .vmem, ⟨20, _⟩ => ⟨S1024x64, .bf16⟩
  | .local _ .vmem, ⟨21, _⟩ => ⟨S64x2048, .f32⟩
  | .local _ .vmem, ⟨22, _⟩ => ⟨S1024x2048, .f32⟩
  | .local _ .vmem, ⟨23, _⟩ => ⟨S1024x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c1024_i32 : BitVec 32 := 1024#32
  let v8 : BitVec 32 := Scalar.muli arg0 c1024_i32
  let v11 : Index := Scalar.indexCast v8
  let c0_5 : Index := 0#32
  ![v11.toNat, 0]
def k0_off2 (i : grid0.Coords) : Fin 2 → Nat :=
  let arg0 : BitVec 32 := BitVec.ofNat 32 (i 0).val
  let c1024_i32 : BitVec 32 := 1024#32
  let v8 : BitVec 32 := Scalar.muli arg0 c1024_i32
  let v23 : Index := Scalar.indexCast v8
  let c0_13 : Index := 0#32
  ![v23.toNat, 0]
def k0_cond2 (i : grid0.Coords) : BitVec 1 :=
  let arg0 : BitVec 32 := BitVec.ofNat 32 (i 0).val
  let c4_i32_0 : BitVec 32 := 4#32
  let v3 : BitVec 1 := Scalar.cmpi .eq arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S64x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== ReferenceIdeal.lean ====
abbrev S1x4096x2048 : Shape := ⟨3, ![1, 4096, 2048]⟩
abbrev S8192x2048 : Shape := ⟨2, ![8192, 2048]⟩
abbrev S2048x8192 : Shape := ⟨2, ![2048, 8192]⟩
abbrev S8x2048 : Shape := ⟨2, ![8, 2048]⟩
abbrev S64x2048 : Shape := ⟨2, ![64, 2048]⟩
abbrev S4096x2048 : Shape := ⟨2, ![4096, 2048]⟩
abbrev S2048x8 : Shape := ⟨2, ![2048, 8]⟩
abbrev S4096x8 : Shape := ⟨2, ![4096, 8]⟩
abbrev S_ : Shape := ⟨0, ![]⟩
abbrev S8 : Shape := ⟨1, ![8]⟩
abbrev S1x8 : Shape := ⟨2, ![1, 8]⟩
abbrev S4096 : Shape := ⟨1, ![4096]⟩
abbrev S4096x1 : Shape := ⟨2, ![4096, 1]⟩
abbrev S4096x8x1 : Shape := ⟨3, ![4096, 8, 1]⟩
abbrev S4096x1x8 : Shape := ⟨3, ![4096, 1, 8]⟩
abbrev S4096x8x8 : Shape := ⟨3, ![4096, 8, 8]⟩
abbrev S4096x64 : Shape := ⟨2, ![4096, 64]⟩
abbrev S4096x8x2048 : Shape := ⟨3, ![4096, 8, 2048]⟩
abbrev S4096x8192 : Shape := ⟨2, ![4096, 8192]⟩

abbrev nBuf : Space → Nat
  | .hbm => 176
  | .vmem => 0
  | .smem => 0
  | _ => 0

abbrev hbmTy0_0 (i : Nat) : BufTy := match i % 128 with
  | 0 => ⟨S1x4096x2048, .f32⟩
  | 1 => ⟨S8192x2048, .f32⟩
  | 2 => ⟨S8192x2048, .f32⟩
  | 3 => ⟨S2048x8192, .f32⟩
  | 4 => ⟨S8x2048, .f32⟩
  | 5 => ⟨S8x2048, .f32⟩
  | 6 => ⟨S64x2048, .f32⟩
  | 7 => ⟨S64x2048, .f32⟩
  | 8 => ⟨S4096x2048, .f32⟩
  | 9 => ⟨S2048x8, .f32⟩
  | 10 => ⟨S4096x8, .f32⟩
  | 11 => ⟨S_, .f32⟩
  | 12 => ⟨S8, .f32⟩
  | 13 => ⟨S_, .f32⟩
  | 14 => ⟨S8, .f32⟩
  | 15 => ⟨S8, .f32⟩
  | 16 => ⟨S_, .i32⟩
  | 17 => ⟨S_, .f32⟩
  | 18 => ⟨S8, .f32⟩
  | 19 => ⟨S1x8, .f32⟩
  | 20 => ⟨S_, .f32⟩
  | 21 => ⟨S1x8, .f32⟩
  | 22 => ⟨S1x8, .f32⟩
  | 23 => ⟨S4096x8, .f32⟩
  | 24 => ⟨S4096x8, .f32⟩
  | 25 => ⟨S4096x8, .f32⟩
  | 26 => ⟨S_, .f32⟩
  | 27 => ⟨S_, .f32⟩
  | 28 => ⟨S_, .f32⟩
  | 29 => ⟨S_, .f32⟩
  | 30 => ⟨S8, .f32⟩
  | 31 => ⟨S8, .f32⟩
  | 32 => ⟨S8, .f32⟩
  | 33 => ⟨S_, .f32⟩
  | 34 => ⟨S_, .i1⟩
  | 35 => ⟨S_, .f32⟩
  | 36 => ⟨S_, .f32⟩
  | 37 => ⟨S8, .f32⟩
  | 38 => ⟨S8, .f32⟩
  | 39 => ⟨S1x8, .f32⟩
  | 40 => ⟨S4096x8, .f32⟩
  | 41 => ⟨S4096x8, .f32⟩
  | 42 => ⟨S_, .f32⟩
  | 43 => ⟨S8, .f32⟩
  | 44 => ⟨S8, .f32⟩
  | 45 => ⟨S8, .f32⟩
  | 46 => ⟨S1x8, .f32⟩
  | 47 => ⟨S4096x8, .f32⟩
  | 48 => ⟨S4096x8, .f32⟩
  | 49 => ⟨S2048x8, .f32⟩
  | 50 => ⟨S4096x8, .f32⟩
  | 51 => ⟨S_, .f32⟩
  | 52 => ⟨S8, .f32⟩
  | 53 => ⟨S_, .f32⟩
  | 54 => ⟨S8, .f32⟩
  | 55 => ⟨S8, .f32⟩
  | 56 => ⟨S_, .i32⟩
  | 57 => ⟨S_, .f32⟩
  | 58 => ⟨S8, .f32⟩
  | 59 => ⟨S1x8, .f32⟩
  | 60 => ⟨S_, .f32⟩
  | 61 => ⟨S1x8, .f32⟩
  | 62 => ⟨S1x8, .f32⟩
  | 63 => ⟨S4096x8, .f32⟩
  | 64 => ⟨S4096x8, .f32⟩
  | 65 => ⟨S4096x8, .f32⟩
  | 66 => ⟨S_, .f32⟩
  | 67 => ⟨S_, .f32⟩
  | 68 => ⟨S_, .f32⟩
  | 69 => ⟨S_, .f32⟩
  | 70 => ⟨S8, .f32⟩
  | 71 => ⟨S8, .f32⟩
  | 72 => ⟨S8, .f32⟩
  | 73 => ⟨S_, .f32⟩
  | 74 => ⟨S_, .i1⟩
  | 75 => ⟨S_, .f32⟩
  | 76 => ⟨S_, .f32⟩
  | 77 => ⟨S8, .f32⟩
  | 78 => ⟨S8, .f32⟩
  | 79 => ⟨S1x8, .f32⟩
  | 80 => ⟨S4096x8, .f32⟩
  | 81 => ⟨S4096x8, .f32⟩
  | 82 => ⟨S_, .f32⟩
  | 83 => ⟨S8, .f32⟩
  | 84 => ⟨S8, .f32⟩
  | 85 => ⟨S8, .f32⟩
  | 86 => ⟨S1x8, .f32⟩
  | 87 => ⟨S4096x8, .f32⟩
  | 88 => ⟨S4096x8, .f32⟩
  | 89 => ⟨S_, .f32⟩
  | 90 => ⟨S4096, .f32⟩
  | 91 => ⟨S_, .f32⟩
  | 92 => ⟨S4096, .f32⟩
  | 93 => ⟨S4096, .f32⟩
  | 94 => ⟨S4096x1, .f32⟩
  | 95 => ⟨S4096x8, .f32⟩
  | 96 => ⟨S4096x8, .f32⟩
  | 97 => ⟨S4096x8, .f32⟩
  | 98 => ⟨S_, .f32⟩
  | 99 => ⟨S4096, .f32⟩
  | 100 => ⟨S4096x1, .f32⟩
  | 101 => ⟨S4096x1, .f32⟩
  | 102 => ⟨S4096x8, .f32⟩
  | 103 => ⟨S4096x8, .f32⟩
  | 104 => ⟨S_, .f32⟩
  | 105 => ⟨S4096, .f32⟩
  | 106 => ⟨S_, .f32⟩
  | 107 => ⟨S4096, .f32⟩
  | 108 => ⟨S4096, .f32⟩
  | 109 => ⟨S4096x1, .f32⟩
  | 110 => ⟨S4096x8, .f32⟩
  | 111 => ⟨S4096x8, .f32⟩
  | 112 => ⟨S4096x8, .f32⟩
  | 113 => ⟨S_, .f32⟩
  | 114 => ⟨S4096, .f32⟩
  | 115 => ⟨S4096x1, .f32⟩
  | 116 => ⟨S4096x1, .f32⟩
  | 117 => ⟨S4096x8, .f32⟩
  | 118 => ⟨S4096x8, .f32⟩
  | 119 => ⟨S4096x8x1, .f32⟩
  | 120 => ⟨S4096x1x8, .f32⟩
  | 121 => ⟨S4096x8x8, .f32⟩
  | 122 => ⟨S4096x8x8, .f32⟩
  | 123 => ⟨S4096x8x8, .f32⟩
  | 124 => ⟨S4096x64, .f32⟩
  | 125 => ⟨S4096x8, .f32⟩
  | 126 => ⟨S4096x8, .i32⟩
  | 127 => ⟨S4096x8, .f32⟩
  | _ => ⟨S1x4096x2048, .f32⟩

abbrev hbmTy0_1 (i : Nat) : BufTy := match i % 128 with
  | 0 => ⟨S_, .i32⟩
  | 1 => ⟨S4096x8, .i32⟩
  | 2 => ⟨S4096x8, .i1⟩
  | 3 => ⟨S_, .i32⟩
  | 4 => ⟨S4096x8, .i32⟩
  | 5 => ⟨S4096x8, .i32⟩
  | 6 => ⟨S4096x8, .i32⟩
  | 7 => ⟨S4096x8x1, .i32⟩
  | 8 => ⟨S4096x8x2048, .f32⟩
  | 9 => ⟨S_, .i32⟩
  | 10 => ⟨S4096x8, .i32⟩
  | 11 => ⟨S4096x8, .i1⟩
  | 12 => ⟨S_, .i32⟩
  | 13 => ⟨S4096x8, .i32⟩
  | 14 => ⟨S4096x8, .i32⟩
  | 15 => ⟨S4096x8, .i32⟩
  | 16 => ⟨S4096x8x1, .i32⟩
  | 17 => ⟨S4096x8x2048, .f32⟩
  | 18 => ⟨S4096x8, .f32⟩
  | 19 => ⟨S4096x8, .f32⟩
  | 20 => ⟨S4096x8, .f32⟩
  | 21 => ⟨S_, .f32⟩
  | 22 => ⟨S4096x8, .f32⟩
  | 23 => ⟨S4096x8, .f32⟩
  | 24 => ⟨S_, .f32⟩
  | 25 => ⟨S4096x8, .f32⟩
  | 26 => ⟨S4096x8, .f32⟩
  | 27 => ⟨S4096x8, .f32⟩
  | 28 => ⟨S4096x8, .f32⟩
  | 29 => ⟨S4096x2048, .f32⟩
  | 30 => ⟨S2048x8192, .f32⟩
  | 31 => ⟨S4096x8192, .f32⟩
  | 32 => ⟨S4096x8192, .f32⟩
  | 33 => ⟨S4096x8192, .f32⟩
  | 34 => ⟨S_, .f32⟩
  | 35 => ⟨S4096x8192, .f32⟩
  | 36 => ⟨S4096x8192, .f32⟩
  | 37 => ⟨S_, .f32⟩
  | 38 => ⟨S4096x8192, .f32⟩
  | 39 => ⟨S4096x8192, .f32⟩
  | 40 => ⟨S4096x8192, .f32⟩
  | 41 => ⟨S2048x8192, .f32⟩
  | 42 => ⟨S4096x8192, .f32⟩
  | 43 => ⟨S4096x8192, .f32⟩
  | 44 => ⟨S8192x2048, .f32⟩
  | 45 => ⟨S4096x2048, .f32⟩
  | 46 => ⟨S4096x2048, .f32⟩
  | 47 => ⟨S1x4096x2048, .f32⟩
  | _ => ⟨S1x4096x2048, .f32⟩

abbrev hbmTy (i : Nat) : BufTy := match i / 128 with
  | 0 => hbmTy0_0 i
  | 1 => hbmTy0_1 i
  | _ => ⟨S1x4096x2048, .f32⟩

abbrev bufTy : (tb : Table) → Fin (tcTables nBuf tb) → BufTy
  | .hbm, ⟨i, _⟩ => hbmTy i
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_cst_3 : Ref sig .tc := ⟨.hbm, 33, rfl⟩
abbrev main_call0_v12 : Ref sig .tc := ⟨.hbm, 34, rfl⟩
abbrev main_call0_cst_4 : Ref sig .tc := ⟨.hbm, 35, rfl⟩
abbrev main_call0_call0_v0 : Ref sig .tc := ⟨.hbm, 36, rfl⟩
abbrev main_call0_call0_v1 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst_1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_2 : Ref sig .tc := ⟨.hbm, 51, rfl⟩
abbrev main_v18 : Ref sig .tc := ⟨.hbm, 52, rfl⟩
abbrev main_cst_3 : Ref sig .tc := ⟨.hbm, 53, rfl⟩
abbrev main_v19 : Ref sig .tc := ⟨.hbm, 54, rfl⟩
abbrev main_v20 : Ref sig .tc := ⟨.hbm, 55, rfl⟩
abbrev main_c_4 : Ref sig .tc := ⟨.hbm, 56, rfl⟩
abbrev main_call1_cst : Ref sig .tc := ⟨.hbm, 57, rfl⟩
abbrev main_call1_v0 : Ref sig .tc := ⟨.hbm, 58, rfl⟩
abbrev main_call1_v1 : Ref sig .tc := ⟨.hbm, 59, rfl⟩
abbrev main_call1_cst_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_cst_1 : Ref sig .tc := ⟨.hbm, 67, rfl⟩
abbrev main_call1_v8 : Ref sig .tc := ⟨.hbm, 68, rfl⟩
abbrev main_call1_cst_2 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_cst_3 : Ref sig .tc := ⟨.hbm, 73, rfl⟩
abbrev main_call1_v12 : Ref sig .tc := ⟨.hbm, 74, rfl⟩
abbrev main_call1_cst_4 : Ref sig .tc := ⟨.hbm, 75, rfl⟩
abbrev main_call1_call0_v0 : Ref sig .tc := ⟨.hbm, 76, rfl⟩
abbrev main_call1_call0_v1 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_cst_5 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v31 : Ref sig .tc := ⟨.hbm, 103, rfl⟩
abbrev main_call3_cst : Ref sig .tc := ⟨.hbm, 104, rfl⟩
abbrev main_call3_v0 : Ref sig .tc := ⟨.hbm, 105, rfl⟩
abbrev main_call3_cst_0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_v6 : Ref sig .tc := ⟨.hbm, 112, rfl⟩
abbrev main_call3_cst_1 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_values : Ref sig .tc := ⟨.hbm, 125, rfl⟩
abbrev main_indices : Ref sig .tc := ⟨.hbm, 126, rfl⟩
abbrev main_v39 : Ref sig .tc := ⟨.hbm, 127, rfl⟩
abbrev main_c_6 : Ref sig .tc := ⟨.hbm, 128, rfl⟩
abbrev main_v40 : Ref sig .tc := ⟨.hbm, 129, rfl⟩
abbrev main_v41 : Ref sig .tc := ⟨.hbm, 130, rfl⟩
abbrev main_c_7 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_c_8 : Ref sig .tc := ⟨.hbm, 137, rfl⟩
abbrev main_v47 : Ref sig .tc := ⟨.hbm, 138, rfl⟩
abbrev main_v48 : Ref sig .tc := ⟨.hbm, 139, rfl⟩
abbrev main_c_9 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_call4_v0 : Ref sig .tc := ⟨.hbm, 147, rfl⟩
abbrev main_call4_v1 : Ref sig .tc := ⟨.hbm, 148, rfl⟩
abbrev main_call4_cst : Ref sig .tc := ⟨.hbm, 149, rfl⟩
abbrev main_call4_v2 : Ref sig .tc := ⟨.hbm, 150, rfl⟩
abbrev main_call4_v3 : Ref sig .tc := ⟨.hbm, 151, rfl⟩
abbrev main_call4_cst_0 : Ref sig .tc := ⟨.hbm, 152, rfl⟩
abbrev main_call4_v4 : Ref sig .tc := ⟨.hbm, 153, rfl⟩
abbrev main_call4_v5 : Ref sig .tc := ⟨.hbm, 154, rfl⟩
abbrev main_v55 : Ref sig .tc := ⟨.hbm, 155, rfl⟩
abbrev main_v56 : Ref sig .tc := ⟨.hbm, 156, rfl⟩
abbrev main_v57 : Ref sig .tc := ⟨.hbm, 157, rfl⟩
abbrev main_v58 : Ref sig .tc := ⟨.hbm, 158, rfl⟩
abbrev main_v59 : Ref sig .tc := ⟨.hbm, 159, rfl⟩
abbrev main_call5_v0 : Ref sig .tc := ⟨.hbm, 160, rfl⟩
abbrev main_call5_v1 : Ref sig .tc := ⟨.hbm, 161, rfl⟩
abbrev main_call5_cst : Ref sig .tc := ⟨.hbm, 162, rfl⟩
abbrev main_call5_v2 : Ref sig .tc := ⟨.hbm, 163, rfl⟩
abbrev main_call5_v3 : Ref sig .tc := ⟨.hbm, 164, rfl⟩
abbrev main_call5_cst_0 : Ref sig .tc := ⟨.hbm, 165, rfl⟩
abbrev main_call5_v4 : Ref sig .tc := ⟨.hbm, 166, rfl⟩
abbrev main_call5_v5 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev main_v63 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩

abbrev nD : Nat := 1
abbrev τ : Topo := Topo.v7x

variable {F : FTy → Type} [FloatOps F]
-- ==== Proof.KernelIdeal.MlpBody.lean ====
/-
  The dense block's body: what one grid point leaves in the output tile, as a term over the tiles it reads.

  At the first inner point the tile is set to the experts' part (`k1_pay1`) before the first slice of the dense block is added;
  at a later inner point the slice is added to what the tile held (`k1_pay2`).
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole two-axis tile are zero on both axes. -/
theorem zero_off : (![0, 0] : Fin 2 → Nat) = fun _ => 0 := funext fun a => by fin_cases a <;> rfl

/-- The body's branch is taken: the inner grid coordinate is zero. -/
abbrev first (i : grid1.Coords) : Prop :=
  (Scalar.cmpi .ne (Scalar.extui (Scalar.cmpi .eq (BitVec.ofNat 32 (i 1).val) 0#32)) 0#32) = 1#1

/-- In point order the branch is taken at every sixteenth point. -/
theorem first_iff (t : Fin cfg1.N) : first (grid1.coords t) ↔ t.val % 16 = 0 := by
  have ht : t.val < 64 := lt_of_lt_of_eq t.isLt N_1
  have e : (grid1.coords t 1).val = t.val / 1 % 16 := Pipeline.Grid.coords_val t 1 (by decide) rfl
  simp only [first, e]
  word_cmp

section Body

variable (c : Dev nD) (i : grid1.Coords) (x : Memref sig .tc .vmem S1024x2048 .bf16) (hx : x.IsWhole)
  (g : Memref sig .tc .vmem S512x2048 .f32) (hg : g.IsWhole) (u : Memref sig .tc .vmem S512x2048 .f32) (hu : u.IsWhole)
  (d : Memref sig .tc .vmem S2048x512 .f32) (hd : d.IsWhole) (w : Memref sig .tc .vmem S1024x64 .bf16) (hw : w.IsWhole)
  (e : Memref sig .tc .vmem S64x2048 .f32) (he : e.IsWhole) (o : Memref sig .tc .vmem S1024x2048 .f32) (ho : o.IsWhole)
  (vx : Vec F S1024x2048 .bf16) (vg : Vec F S512x2048 .f32) (vu : Vec F S512x2048 .f32) (vd : Vec F S2048x512 .f32)
  (vw : Vec F S1024x64 .bf16) (ve : Vec F S64x2048 .f32)

/-- The six input tiles at their contents. -/
def tiles : sProp 𝕄 :=
  iprop(owns (c : Thread nD τ) x fullShare vx ∗ owns (c : Thread nD τ) g fullShare vg ∗ owns (c : Thread nD τ) u fullShare vu
    ∗ owns (c : Thread nD τ) d fullShare vd ∗ owns (c : Thread nD τ) w fullShare vw ∗ owns (c : Thread nD τ) e fullShare ve)

set_option maxHeartbeats 1000000 in
/-- A first inner point: from any output tile, the body leaves the experts' part plus the first slice. -/
theorem body_first (hc : first i) (E : Set ℕ) (K : PUnit → sProp 𝕄) :
    iprop(tiles c x g u d w e vx vg vu vd vw ve ∗ (∃ v, owns (c : Thread nD τ) o fullShare v)
        ∗ (iprop(tiles c x g u d w e vx vg vu vd vw ve
            ∗ owns (c : Thread nD τ) o fullShare (k1_pay2 vx vg vu vd (k1_pay1 vw ve))) -∗ K ⟨⟩))
      ⊢ wp frame (wpE (defs₀ (F := F)) Variants.none c none) E
          (cc1__mlp_kernel i x hx g hg u hu d hd w hw e he o ho) K := by
  simp only [cc1__mlp_kernel_eq_skeleton]; unfold cc1__mlp_kernel_skel tiles
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩⟩, ⟨%v6, %f6, %e6, H6⟩, Hk⟩
  obtain rfl := hx.eq_unread e0; obtain rfl := hg.eq_unread e1; obtain rfl := hu.eq_unread e2
  obtain rfl := hd.eq_unread e3; obtain rfl := hw.eq_unread e4; obtain rfl := he.eq_unread e5
  sl_exec (disch := first | sl_exact hc)
  sl_step
  iapply Hk
  isplitl [H0 H1 H2 H3 H4 H5]
  · isplitl [H0]
    · iexists _; isplitr; · ipureintro; exact hx.read_unread _
      iexact H0
    isplitl [H1]
    · iexists _; isplitr; · ipureintro; exact hg.read_unread _
      iexact H1
    isplitl [H2]
    · iexists _; isplitr; · ipureintro; exact hu.read_unread _
      iexact H2
    isplitl [H3]
    · iexists _; isplitr; · ipureintro; exact hd.read_unread _
      iexact H3
    isplitl [H4]
    · iexists _; isplitr; · ipureintro; exact hw.read_unread _
      iexact H4
    iexists _; isplitr; · ipureintro; exact he.read_unread _
    iexact H5
  iexists _; isplitr
  swap; · iexact H6
  ipureintro
  rw [View.read_writes_eq_canon _ _ _ (View.cover_of_tiledL _ S1024x2048.size (by sl_kernel_rfl))]
  try sl_unfold_words
  rw [View.canon_cons_unit_zero (S := S1024x2048) zero_off, View.readCov_unit_zero (S := S1024x2048) _ zero_off]
  simp only [View.readAt_eq_ld, hx.read_unread, hg.read_unread, hu.read_unread, hd.read_unread, hw.read_unread, he.read_unread,
    View.ld_unit_zero (S := S1024x2048) zero_off, View.ld_unit_zero (S := S1024x64) zero_off,
    View.ld_unit_zero (S := S2048x512) zero_off, View.ld_unit_zero (S := S512x2048) zero_off,
    View.ld_unit_zero (S := S64x2048) zero_off, shapeCast_self]

set_option maxHeartbeats 1000000 in
/-- A later inner point: the body adds its slice to what the output tile held. -/
theorem body_next (hc : ¬ first i) (vo : Vec F S1024x2048 .f32) (E : Set ℕ) (K : PUnit → sProp 𝕄) :
    iprop(tiles c x g u d w e vx vg vu vd vw ve ∗ owns (c : Thread nD τ) o fullShare vo
        ∗ (iprop(tiles c x g u d w e vx vg vu vd vw ve
            ∗ owns (c : Thread nD τ) o fullShare (k1_pay2 vx vg vu vd vo)) -∗ K ⟨⟩))
      ⊢ wp frame (wpE (defs₀ (F := F)) Variants.none c none) E
          (cc1__mlp_kernel i x hx g hg u hu d hd w hw e he o ho) K := by
  simp only [cc1__mlp_kernel_eq_skeleton]; unfold cc1__mlp_kernel_skel tiles
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩⟩, ⟨%f6, %e6, H6⟩, Hk⟩
  obtain rfl := hx.eq_unread e0; obtain rfl := hg.eq_unread e1; obtain rfl := hu.eq_unread e2
  obtain rfl := hd.eq_unread e3; obtain rfl := hw.eq_unread e4; obtain rfl := he.eq_unread e5; obtain rfl := ho.eq_unread e6
  sl_exec (disch := first | sl_exact hc)
  sl_step
  iapply Hk
  isplitl [H0 H1 H2 H3 H4 H5]
  · isplitl [H0]
    · iexists _; isplitr; · ipureintro; exact hx.read_unread _
      iexact H0
    isplitl [H1]
    · iexists _; isplitr; · ipureintro; exact hg.read_unread _
      iexact H1
    isplitl [H2]
    · iexists _; isplitr; · ipureintro; exact hu.read_unread _
      iexact H2
    isplitl [H3]
    · iexists _; isplitr; · ipureintro; exact hd.read_unread _
      iexact H3
    isplitl [H4]
    · iexists _; isplitr; · ipureintro; exact hw.read_unread _
      iexact H4
    iexists _; isplitr; · ipureintro; exact he.read_unread _
    iexact H5
  iexists _; isplitr
  swap; · iexact H6
  ipureintro
  rw [View.read_writes_eq_canon _ _ _ (View.cover_of_tiledL _ S1024x2048.size (by sl_kernel_rfl))]
  try sl_unfold_words
  rw [View.canon_unit_zero zero_off]
  simp only [View.readAt_eq_ld, hx.read_unread, hg.read_unread, hu.read_unread, hd.read_unread, hw.read_unread, he.read_unread,
    ho.read_unread, View.ld_unit_zero (S := S1024x2048) zero_off, View.ld_unit_zero (S := S1024x64) zero_off,
    View.ld_unit_zero (S := S2048x512) zero_off, View.ld_unit_zero (S := S512x2048) zero_off,
    View.ld_unit_zero (S := S64x2048) zero_off, shapeCast_self]

end Body

end Cert.KernelIdeal.Mlp

end
-- ==== Proof.KernelIdeal.MlpRegion.lean ====
/-
  The dense block's region: its proof data from any contents `W` of the buffers at its entry, the body obligation at every grid
  point, and the output array it leaves.

  Each row tile of the output is visited by sixteen consecutive points; `tile` is what the tile holds after each of them, and the
  array ends holding the sixteenth (`result`).
-/
module

public import proofs.«01_k».proof.Proof.KernelIdeal.MlpBody

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The block of window `w`'s array that point `t` names, read off the entry contents. -/
def blk (c : Dev nD) (w : Fin cfg1.W) (t : Fin cfg1.N) :
    ((cfg1.win w).xblock (cfg1.grid.coords t)).Idx → Elt F (cfg1.win w).elt :=
  ((cfg1.win w).blk t).view.read (Elt F) (W c (Proc.devRef .tc (Pipeline.arrRef spec1 w)))

/-- The experts' part of point `t`'s row tile. -/
def start (c : Dev nD) (t : Fin cfg1.N) : Vec F S1024x2048 .f32 := k1_pay1 (blk W c 4 t) (blk W c 5 t)

/-- Point `t`'s slice of the dense block, added to `acc`. -/
def add (c : Dev nD) (t : Fin cfg1.N) (acc : Vec F S1024x2048 .f32) : Vec F S1024x2048 .f32 :=
  k1_pay2 (blk W c 0 t) (blk W c 1 t) (blk W c 2 t) (blk W c 3 t) acc

/-- What the output tile holds after the body at point `n`. -/
def tile (c : Dev nD) : (n : ℕ) → n < cfg1.N → Vec F S1024x2048 .f32
  | 0, h => add W c ⟨0, h⟩ (start W c ⟨0, h⟩)
  | n + 1, h => if (n + 1) % 16 = 0 then add W c ⟨n + 1, h⟩ (start W c ⟨n + 1, h⟩)
      else add W c ⟨n + 1, h⟩ (tile c n (Nat.lt_of_succ_lt h))

/-- At a first inner point the tile restarts from the experts' part. -/
theorem tile_first (c : Dev nD) (t : Fin cfg1.N) (h : t.val % 16 = 0) :
    tile W c t.val t.isLt = add W c t (start W c t) := by
  obtain ⟨n, hn⟩ := t
  cases n with
  | zero => rfl
  | succ n => exact if_pos h

/-- At a later inner point it adds to what the point before left. -/
theorem tile_next (c : Dev nD) (t : Fin cfg1.N) (h : ¬ t.val % 16 = 0) :
    tile W c t.val t.isLt = add W c t (tile W c (t.val - 1) (Nat.lt_of_le_of_lt (Nat.sub_le _ _) t.isLt)) := by
  obtain ⟨n, hn⟩ := t
  cases n with
  | zero => exact absurd rfl h
  | succ n => exact if_neg h

/-- The region's proof data on core `c`: the arrays as entered, each input tile kept, the output tile at `tile`. -/
def dat (c : Dev nD) : Dat τ (Elt F) Unit ℕ (UR sig nD τ) ℕ cfg1 c where
  A w := W c (Proc.devRef .tc (Pipeline.arrRef spec1 w))
  after w t := match w with
    | ⟨0, _⟩ => blk W c 0 t
    | ⟨1, _⟩ => blk W c 1 t
    | ⟨2, _⟩ => blk W c 2 t
    | ⟨3, _⟩ => blk W c 3 t
    | ⟨4, _⟩ => blk W c 4 t
    | ⟨5, _⟩ => blk W c 5 t
    | ⟨6, _⟩ => tile W c t.val t.isLt
  Φ _ := Pipeline.ΦA spec1 c
  q _ := fullShare
  owed _ := 0

/-- The arrays of the proof data are the entry contents. -/
theorem dat_A (c : Dev nD) (w : Fin cfg1.W) : (dat W c).A w = W c (Proc.devRef .tc (Pipeline.arrRef spec1 w)) := by
  dsimp only [dat]

/-- The body keeps the tile of input 0; the five theorems after it say the same of the other inputs. -/
theorem after_0 (c : Dev nD) (t : Fin cfg1.N) : (dat W c).after 0 t = blk W c 0 t := by dsimp only [dat]
theorem after_1 (c : Dev nD) (t : Fin cfg1.N) : (dat W c).after 1 t = blk W c 1 t := by dsimp only [dat]
theorem after_2 (c : Dev nD) (t : Fin cfg1.N) : (dat W c).after 2 t = blk W c 2 t := by dsimp only [dat]
theorem after_3 (c : Dev nD) (t : Fin cfg1.N) : (dat W c).after 3 t = blk W c 3 t := by dsimp only [dat]
theorem after_4 (c : Dev nD) (t : Fin cfg1.N) : (dat W c).after 4 t = blk W c 4 t := by dsimp only [dat]
theorem after_5 (c : Dev nD) (t : Fin cfg1.N) : (dat W c).after 5 t = blk W c 5 t := by dsimp only [dat]
/-- The body leaves `tile` in the output tile. -/
theorem after_6 (c : Dev nD) (t : Fin cfg1.N) : (dat W c).after 6 t = tile W c t.val t.isLt := by dsimp only [dat]

/-- Input 0's tile is its block whenever the body runs, whether or not this point staged it anew; likewise the other inputs. -/
theorem before_0 (c : Dev nD) (t : Fin cfg1.N) (d) : (dat W c).before 0 t d = blk W c 0 t :=
  ((dat W c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg1.N) (d) : (dat W c).before 1 t d = blk W c 1 t :=
  ((dat W c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg1.N) (d) : (dat W c).before 2 t d = blk W c 2 t :=
  ((dat W c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem before_3 (c : Dev nD) (t : Fin cfg1.N) (d) : (dat W c).before 3 t d = blk W c 3 t :=
  ((dat W c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)
theorem before_4 (c : Dev nD) (t : Fin cfg1.N) (d) : (dat W c).before 4 t d = blk W c 4 t :=
  ((dat W c).before_in_eq_fetched 4 rfl (fun _ => rfl) (fun _ _ _ => rfl)
    (fun t => by rw [after_4]; unfold Dat.blockOf blk; rw [dat_A]; try rfl) t d).trans
    (by unfold Dat.fetched Dat.blockOf blk; rw [dat_A]; try rfl)
theorem before_5 (c : Dev nD) (t : Fin cfg1.N) (d) : (dat W c).before 5 t d = blk W c 5 t :=
  ((dat W c).before_in_eq_fetched 5 rfl (fun _ => rfl) (fun _ _ _ => rfl)
    (fun t => by rw [after_5]; unfold Dat.blockOf blk; rw [dat_A]; try rfl) t d).trans
    (by unfold Dat.fetched Dat.blockOf blk; rw [dat_A]; try rfl)

/-- At a later inner point the output tile still holds what the point before left: it was not written back between. -/
theorem before_6 (c : Dev nD) (t : Fin cfg1.N) (h : ¬ t.val % 16 = 0) (d) :
    (dat W c).before 6 t d = tile W c (t.val - 1) (Nat.lt_of_le_of_lt (Nat.sub_le _ _) t.isLt) := by
  have hN : t.val < 64 := lt_of_lt_of_eq t.isLt (show cfg1.N = 64 from N_1)
  rw [Dat.before_out_kept _ 6 rfl t (by omega)
    (Bool.eq_false_iff.mpr fun h' => by have := (flush1_6 _).mp h'; dsimp only at this; omega) (fun _ => rfl) (fun _ _ => rfl)]
  dsimp only [dat]

/-- What the body is entered with at point `t`, window by window. -/
def bodyPre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d))
    ∗ (∃ d, owns (c : Thread nD τ) (st1_5 t) fullShare ((dat W c).before 5 t d))
    ∗ (∃ d, owns (c : Thread nD τ) (st1_6 t) fullShare ((dat W c).before 6 t d)))

/-- What it is left with. -/
def bodyPost (c : Dev nD) (t : Fin cfg1.N) : sProp 𝕄 :=
  iprop((dat W c).Φ t.succ ∗ (dat W c).owesAt () t.succ
    ∗ owns (c : Thread nD τ) (st1_0 t) fullShare ((dat W c).after 0 t)
    ∗ owns (c : Thread nD τ) (st1_1 t) fullShare ((dat W c).after 1 t)
    ∗ owns (c : Thread nD τ) (st1_2 t) fullShare ((dat W c).after 2 t)
    ∗ owns (c : Thread nD τ) (st1_3 t) fullShare ((dat W c).after 3 t)
    ∗ owns (c : Thread nD τ) (st1_4 t) fullShare ((dat W c).after 4 t)
    ∗ owns (c : Thread nD τ) (st1_5 t) fullShare ((dat W c).after 5 t)
    ∗ owns (c : Thread nD τ) (st1_6 t) fullShare ((dat W c).after 6 t))

set_option maxHeartbeats 1000000 in
/-- The body at any point: by the case of the inner coordinate. -/
theorem sound (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4, before_5]
  rw [show (dat W c).Φ t.succ = (dat W c).Φ t.castSucc from rfl,
    show (dat W c).owesAt () t.succ = (dat W c).owesAt () t.castSucc from rfl,
    after_0, after_1, after_2, after_3, after_4, after_5, after_6]
  by_cases h : t.val % 16 = 0
  · rw [tile_first W c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_first c (grid1.coords t) _ _ _ _ _ _ _ _ _ _ _ _ _ _ (blk W c 0 t) (blk W c 1 t) (blk W c 2 t) (blk W c 3 t)
      (blk W c 4 t) (blk W c 5 t) ((first_iff t).mpr h) Set.univ _)
    unfold tiles
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    iintro ⟨⟨H0, H1, H2, H3, H4, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [tile_next W c t h]
    simp only [before_6 W c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_next c (grid1.coords t) _ _ _ _ _ _ _ _ _ _ _ _ _ _ (blk W c 0 t) (blk W c 1 t) (blk W c 2 t) (blk W c 3 t)
      (blk W c 4 t) (blk W c 5 t) (fun h' => h ((first_iff t).mp h')) _ Set.univ _)
    unfold tiles
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    iintro ⟨⟨H0, H1, H2, H3, H4, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation of the region. -/
theorem obligation (c : Dev nD) : BodyObligation (dat W c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound W c t) rfl .rfl fun _ => .rfl

/-! ## The array the region leaves -/

/-- The place of array index `i` inside its row tile. -/
def place (i : S4096x2048.Idx) : S1024x2048.Idx := fun a => match a with
  | ⟨0, _⟩ => ⟨(i 0).val % 1024, Nat.mod_lt _ (by decide)⟩
  | ⟨1, _⟩ => ⟨(i 1).val % 2048, Nat.mod_lt _ (by decide)⟩

/-- The last of the sixteen points of the row tile that holds array index `i`. -/
def lastPt (i : S4096x2048.Idx) : Fin cfg1.N :=
  ⟨16 * ((i 0).val / 1024) + 15, by
    have h : (i 0).val < 4096 := (i 0).isLt
    have e : cfg1.N = 64 := N_1
    omega⟩

/-- The array the region leaves: at each index, its row tile after the tile's last point. -/
def result (c : Dev nD) : S4096x2048.Idx → Elt F .f32 :=
  fun i => tile W c (lastPt i).val (lastPt i).isLt (place i)

/-- The output's block at point `t` is row tile `t / 16`. -/
theorem index_out (t : Fin cfg1.N) : win1_6.index t (0 : Fin 2) = t.val / 16 ∧ win1_6.index t (1 : Fin 2) = 0 :=
  (by decide +kernel : ∀ t : Fin grid1.N, win1_6.index t (0 : Fin 2) = t.val / 16 ∧ win1_6.index t (1 : Fin 2) = 0) t

/-- What a point that writes back writes is its block of `result`. -/
theorem flushed_out (c : Dev nD) (t : Fin cfg1.N) (hf : (cfg1.win 6).flush t = true) :
    (dat W c).flushed 6 t = ((cfg1.win 6).blk t).view.read (Elt F) (result W c) := by
  show (cfg1.win 6).cut (grid1.coords t) ((dat W c).after 6 t) = _
  rw [after_6]
  have hm : t.val % 16 = 15 := (flush1_6 t).mp hf
  obtain ⟨e0, e1⟩ := index_out t
  funext y
  have hy0 : (y 0).val < 1024 := (y 0).isLt
  have hy1 : (y 1).val < 2048 := (y 1).isLt
  have b0 : (((cfg1.win 6).blk t).view.emb y 0).val = win1_6.index t (0 : Fin 2) * 1024 + 1 * (y 0).val := rfl
  have b1 : (((cfg1.win 6).blk t).view.emb y 1).val = win1_6.index t (1 : Fin 2) * 2048 + 1 * (y 1).val := rfl
  show tile W c t.val t.isLt ((cfg1.win 6).xinj (grid1.coords t) y) = result W c (((cfg1.win 6).blk t).view.emb y)
  have hp : place (((cfg1.win 6).blk t).view.emb y) = (cfg1.win 6).xinj (grid1.coords t) y := by
    funext a; apply Fin.ext
    match a with
    | ⟨0, _⟩ => show (((cfg1.win 6).blk t).view.emb y 0).val % 1024 = (y 0).val; rw [b0]; omega
    | ⟨1, _⟩ => show (((cfg1.win 6).blk t).view.emb y 1).val % 2048 = (y 1).val; rw [b1]; omega
  have hl : lastPt (((cfg1.win 6).blk t).view.emb y) = t := by
    apply Fin.ext
    show 16 * ((((cfg1.win 6).blk t).view.emb y 0).val / 1024) + 15 = t.val
    rw [b0]; omega
  unfold result
  rw [hp]
  exact congrArg (fun s : Fin cfg1.N => tile W c s.val s.isLt ((cfg1.win 6).xinj (grid1.coords t) y)) hl.symm

/-- Every index of the output array is in the block of some point that writes back. -/
theorem covered_out (i : S4096x2048.Idx) : ∃ t : Fin cfg1.N, (cfg1.win 6).flush t = true ∧ i ∈ ((cfg1.win 6).blk t).view.set := by
  have h0 : (i 0).val < 4096 := (i 0).isLt
  have h1 : (i 1).val < 2048 := (i 1).isLt
  refine ⟨lastPt i, (flush1_6 _).mpr (by unfold lastPt; dsimp only; omega), ?_⟩
  show i ∈ ((View.whole main_v2).slice (win1_6.rect (lastPt i))).set
  rw [View.set_slice_whole, Rect.mem_set_unit]
  obtain ⟨e0, e1⟩ := index_out (lastPt i)
  have el : (lastPt i).val = 16 * ((i 0).val / 1024) + 15 := rfl
  intro a
  match a with
  | ⟨0, _⟩ => show win1_6.index (lastPt i) (0 : Fin 2) * 1024 ≤ (i 0).val ∧ (i 0).val < win1_6.index (lastPt i) (0 : Fin 2) * 1024 + 1024; omega
  | ⟨1, _⟩ => show win1_6.index (lastPt i) (1 : Fin 2) * 2048 ≤ (i 1).val ∧ (i 1).val < win1_6.index (lastPt i) (1 : Fin 2) * 2048 + 2048; omega

/-- The output array after the region is `result`. -/
theorem final_out (c : Dev nD) : (dat W c).arrAt 6 cfg1.N = result W c :=
  (dat W c).arrAt_eq_of_cover 6 _ (fun t hf => flushed_out W c t hf) covered_out

end Cert.KernelIdeal.Mlp

end
-- ==== Proof.KernelIdeal.RouterBody.lean ====
/-
  The router's body: what one grid point leaves in the buffers it writes, as terms over what it reads.

  The first four points each put one block of rows of the three products into the scratch buffers and the block, rounded, into the
  first output. The fifth reads the three scratch buffers whole and writes the second output (`routed`).
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole two-axis tile are zero on both axes. -/
theorem zero_off : (![0, 0] : Fin 2 → Nat) = fun _ => 0 := funext fun a => by fin_cases a <;> rfl

/-- Each expert's log-probability: the two gates' log-probabilities added. -/
def combined (lx ly : Vec F S4096x8 .f32) : FVec F S4096x64 .f32 :=
  k0_pay12 (k0_pay7 lx) (k0_pay10 ly (k0_pay8 ly) (k0_pay9 ly)) (iota .tc S8x64 32 [0] iota_S8x64_d0_w32)
    (iota .tc S8x64 32 [1] iota_S8x64_d1_w32) (k0_pay11 (F := F)) 8#32

/-- The combined weights with their two largest of each row taken out: the first one, then the mark of the second. -/
def without1 (lx ly : Vec F S4096x8 .f32) : FVec F S4096x64 .f32 :=
  k0_pay14 (k0_pay7 lx) (k0_pay10 ly (k0_pay8 ly) (k0_pay9 ly)) (iota .tc S8x64 32 [0] iota_S8x64_d0_w32)
    (iota .tc S8x64 32 [1] iota_S8x64_d1_w32) (k0_pay11 (F := F)) 8#32

/-- The mark of the second largest of each row. -/
def mark2 (lx ly : Vec F S4096x8 .f32) : IVec S4096x64 1 :=
  k0_pay15 (k0_pay7 lx) (k0_pay10 ly (k0_pay8 ly) (k0_pay9 ly)) (iota .tc S8x64 32 [0] iota_S8x64_d0_w32)
    (iota .tc S8x64 32 [1] iota_S8x64_d1_w32) (k0_pay11 (F := F)) 8#32

/-- The second output, as the last point computes it. -/
def routed (lx ly : Vec F S4096x8 .f32) (s : Vec F S4096x64 .f32) : FVec F S4096x64 .bf16 :=
  k0_pay6 s (combined lx ly) (k0_pay13 (F := F)) (k0_pay16 (k0_pay13 (F := F)) (without1 lx ly) (mark2 lx ly))
    (k0_pay17 (k0_pay13 (F := F)) (without1 lx ly) (mark2 lx ly))

/-- `v'` holds the rows `p` as its row block `n`, and what `v` held in the rows before. -/
def Placed (C n : ℕ) (p : Vec F ⟨2, ![1024, C]⟩ .f32) (v v' : Vec F ⟨2, ![4096, C]⟩ .f32) : Prop :=
  (∀ (y : (⟨2, ![4096, C]⟩ : Shape).Idx) (x : (⟨2, ![1024, C]⟩ : Shape).Idx), (y (0 : Fin 2)).val = 1024 * n + (x (0 : Fin 2)).val →
      (y (1 : Fin 2)).val = (x (1 : Fin 2)).val → v' y = p x)
    ∧ ∀ y : (⟨2, ![4096, C]⟩ : Shape).Idx, (y (0 : Fin 2)).val < 1024 * n → v' y = v y

section Body

variable (c : Dev nD) (i : grid0.Coords)
  (a1 : Memref sig .tc .vmem S1024x2048 .f32) (h1 : a1.IsWhole) (a2 : Memref sig .tc .vmem S8x2048 .f32) (h2 : a2.IsWhole)
  (a3 : Memref sig .tc .vmem S8x2048 .f32) (h3 : a3.IsWhole) (a4 : Memref sig .tc .vmem S64x2048 .f32) (h4 : a4.IsWhole)
  (a5 : Memref sig .tc .vmem S1024x2048 .bf16) (h5 : a5.IsWhole) (a6 : Memref sig .tc .vmem S4096x64 .bf16) (h6 : a6.IsWhole)
  (a7 : Memref sig .tc .vmem S4096x8 .f32) (h7 : a7.IsWhole) (a8 : Memref sig .tc .vmem S4096x8 .f32) (h8 : a8.IsWhole)
  (a9 : Memref sig .tc .vmem S4096x64 .f32) (h9 : a9.IsWhole)
  (vx : Vec F S1024x2048 .f32) (vrx vry : Vec F S8x2048 .f32) (vu : Vec F S64x2048 .f32)
  (lx ly : Vec F S4096x8 .f32) (s : Vec F S4096x64 .f32)

set_option maxHeartbeats 2000000 in
/-- One of the first four points: each product's rows go to their place in its scratch buffer, the rounded block to the first
output. -/
theorem body_rows (hc1 : k0_cond1 i = 1#1) (hc2 : ¬ k0_cond2 i = 1#1) (E : Set ℕ) (K : PUnit → sProp 𝕄) :
    iprop(owns (c : Thread nD τ) a1 fullShare vx ∗ owns (c : Thread nD τ) a2 fullShare vrx
        ∗ owns (c : Thread nD τ) a3 fullShare vry ∗ owns (c : Thread nD τ) a4 fullShare vu
        ∗ (∃ v, owns (c : Thread nD τ) a5 fullShare v)
        ∗ owns (c : Thread nD τ) a7 fullShare lx ∗ owns (c : Thread nD τ) a8 fullShare ly ∗ owns (c : Thread nD τ) a9 fullShare s
        ∗ (iprop(owns (c : Thread nD τ) a1 fullShare vx ∗ owns (c : Thread nD τ) a2 fullShare vrx
            ∗ owns (c : Thread nD τ) a3 fullShare vry ∗ owns (c : Thread nD τ) a4 fullShare vu
            ∗ owns (c : Thread nD τ) a5 fullShare (k0_pay5 vx)
            ∗ (∃ v, ⌜Placed 8 (i 0).val (k0_pay2 vx vrx) lx v⌝ ∗ owns (c : Thread nD τ) a7 fullShare v)
            ∗ (∃ v, ⌜Placed 8 (i 0).val (k0_pay3 vx vry) ly v⌝ ∗ owns (c : Thread nD τ) a8 fullShare v)
            ∗ (∃ v, ⌜Placed 64 (i 0).val (k0_pay4 vx vu) s v⌝ ∗ owns (c : Thread nD τ) a9 fullShare v)) -∗ K ⟨⟩))
      ⊢ wp frame (wpE (defs₀ (F := F)) Variants.none c none) E
          (cc0__router_kernel i a1 h1 a2 h2 a3 h3 a4 h4 a5 h5 a6 h6 a7 h7 a8 h8 a9 h9) K := by
  simp only [cc0__router_kernel_eq_skeleton]; unfold cc0__router_kernel_skel
  unfold owns
  iintro ⟨⟨%f1, %e1, H1⟩, ⟨%f2, %e2, H2⟩, ⟨%f3, %e3, H3⟩, ⟨%f4, %e4, H4⟩, ⟨%v5, %f5, %e5, H5⟩, ⟨%f7, %e7, H7⟩, ⟨%f8, %e8, H8⟩, ⟨%f9, %e9, H9⟩, Hk⟩
  obtain rfl := h1.eq_unread e1; obtain rfl := h2.eq_unread e2; obtain rfl := h3.eq_unread e3
  obtain rfl := h4.eq_unread e4; obtain rfl := h7.eq_unread e7; obtain rfl := h8.eq_unread e8; obtain rfl := h9.eq_unread e9
  sl_exec (disch := first | sl_exact hc1 | sl_exact hc2)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr
    swap; · iexact H5
    ipureintro
    rw [View.read_writes_eq_canon _ _ _ (View.cover_of_tiledL _ S1024x2048.size (by sl_kernel_rfl))]
    try sl_unfold_words
    rw [View.canon_unit_zero zero_off]
    simp only [View.readAt_eq_ld, h1.read_unread, View.ld_unit_zero (S := S1024x2048) zero_off, shapeCast_self]
  isplitl [H7]
  · iexists _; isplitr
    swap
    · iexists _; isplitr
      swap; · iexact H7
      ipureintro; rfl
    ipureintro
    simp only [View.readAt_eq_ld, h1.read_unread, h2.read_unread, View.ld_unit_zero (S := S1024x2048) zero_off,
      View.ld_unit_zero (S := S8x2048) zero_off, shapeCast_self]
    refine ⟨fun y x e0 e1 => ?_, fun y hy => ?_⟩
    · exact View.read_writes_cons_rows_of_mem _ _ _ _ _ y x (k0_off1_eq i) e0 e1
    · exact (View.read_writes_cons_rows_of_not_mem _ _ _ _ _ y (k0_off1_eq i) rfl (.inl hy)).trans
        (congrFun (h7.read_unread _) y)
  isplitl [H8]
  · iexists _; isplitr
    swap
    · iexists _; isplitr
      swap; · iexact H8
      ipureintro; rfl
    ipureintro
    simp only [View.readAt_eq_ld, h1.read_unread, h3.read_unread, View.ld_unit_zero (S := S1024x2048) zero_off,
      View.ld_unit_zero (S := S8x2048) zero_off, shapeCast_self]
    refine ⟨fun y x e0 e1 => ?_, fun y hy => ?_⟩
    · exact View.read_writes_cons_rows_of_mem _ _ _ _ _ y x (k0_off1_eq i) e0 e1
    · exact (View.read_writes_cons_rows_of_not_mem _ _ _ _ _ y (k0_off1_eq i) rfl (.inl hy)).trans
        (congrFun (h8.read_unread _) y)
  iexists _; isplitr
  swap
  · iexists _; isplitr
    swap; · iexact H9
    ipureintro; rfl
  ipureintro
  simp only [View.readAt_eq_ld, h1.read_unread, h4.read_unread, View.ld_unit_zero (S := S1024x2048) zero_off,
    View.ld_unit_zero (S := S64x2048) zero_off, shapeCast_self]
  refine ⟨fun y x e0 e1 => ?_, fun y hy => ?_⟩
  · exact View.read_writes_cons_rows_of_mem _ _ _ _ _ y x (k0_off2_eq i) e0 e1
  · exact (View.read_writes_cons_rows_of_not_mem _ _ _ _ _ y (k0_off2_eq i) rfl (.inl hy)).trans
      (congrFun (h9.read_unread _) y)

set_option maxHeartbeats 2000000 in
/-- The last point: from the three scratch buffers the second output. -/
theorem body_last (hc1 : ¬ k0_cond1 i = 1#1) (hc2 : k0_cond2 i = 1#1) (E : Set ℕ) (K : PUnit → sProp 𝕄) :
    iprop((∃ v, owns (c : Thread nD τ) a6 fullShare v)
        ∗ owns (c : Thread nD τ) a7 fullShare lx ∗ owns (c : Thread nD τ) a8 fullShare ly ∗ owns (c : Thread nD τ) a9 fullShare s
        ∗ (iprop(owns (c : Thread nD τ) a6 fullShare (routed lx ly s)
            ∗ owns (c : Thread nD τ) a7 fullShare lx ∗ owns (c : Thread nD τ) a8 fullShare ly
            ∗ owns (c : Thread nD τ) a9 fullShare s) -∗ K ⟨⟩))
      ⊢ wp frame (wpE (defs₀ (F := F)) Variants.none c none) E
          (cc0__router_kernel i a1 h1 a2 h2 a3 h3 a4 h4 a5 h5 a6 h6 a7 h7 a8 h8 a9 h9) K := by
  simp only [cc0__router_kernel_eq_skeleton]; unfold cc0__router_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%v6, %f6, %e6, H6⟩, ⟨%f7, %e7, H7⟩, ⟨%f8, %e8, H8⟩, ⟨%f9, %e9, H9⟩, Hk⟩
  obtain rfl := h7.eq_unread e7; obtain rfl := h8.eq_unread e8; obtain rfl := h9.eq_unread e9
  sl_exec (disch := first | sl_exact hc1 | sl_exact hc2)
  sl_step
  iapply Hk
  isplitl [H6]
  · iexists _; isplitr
    swap; · iexact H6
    ipureintro
    rw [View.read_writes_eq_canon _ _ _ (View.cover_of_tiledL _ S4096x64.size (by sl_kernel_rfl))]
    try sl_unfold_words
    rw [View.canon_unit_zero zero_off]
    simp only [View.readAt_eq_ld, h7.read_unread, h8.read_unread, h9.read_unread,
      View.ld_unit_zero (S := S4096x8) zero_off, View.ld_unit_zero (S := S4096x64) zero_off, shapeCast_self]
    rfl
  isplitl [H7]
  · iexists _; isplitr; · ipureintro; exact h7.read_unread _
    iexact H7
  isplitl [H8]
  · iexists _; isplitr; · ipureintro; exact h8.read_unread _
    iexact H8
  iexists _; isplitr; · ipureintro; exact h9.read_unread _
  iexact H9

end Body

end Cert.KernelIdeal.Router

end
-- ==== Proof.KernelIdeal.RouterRegion.lean ====
/-
  The router's region: its proof data from any contents `W` of the buffers at its entry, the body obligation at every grid point,
  and the two output arrays it leaves.

  The three scratch buffers carry the products from point to point: before point `n` their first `1024 n` rows are those of
  `gateX`, `gateY` and `scores`, so the last point reads the three whole.
-/
module

public import proofs.«01_k».proof.Proof.KernelIdeal.RouterBody

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- The block of window `w`'s array that point `t` names, read off the entry contents. -/
def blk (c : Dev nD) (w : Fin cfg0.W) (t : Fin cfg0.N) :
    ((cfg0.win w).xblock (cfg0.grid.coords t)).Idx → Elt F (cfg0.win w).elt :=
  ((cfg0.win w).blk t).view.read (Elt F) (W c (Proc.devRef .tc (Pipeline.arrRef spec0 w)))

/-- The point whose block of rows holds row `i 0`. -/
def pt {C : ℕ} (i : (⟨2, ![4096, C]⟩ : Shape).Idx) : Fin cfg0.N :=
  ⟨(i (0 : Fin 2)).val / 1024, by
    have h : (i (0 : Fin 2)).val < 4096 := (i (0 : Fin 2)).isLt
    have e : cfg0.N = 5 := N_0
    omega⟩

/-- The place of index `i` inside its block of rows. -/
def place {C : ℕ} (i : (⟨2, ![4096, C]⟩ : Shape).Idx) : (⟨2, ![1024, C]⟩ : Shape).Idx := fun a => match a with
  | ⟨0, _⟩ => ⟨(i (0 : Fin 2)).val % 1024, Nat.mod_lt _ (by decide)⟩
  | ⟨1, _⟩ => ⟨(i (1 : Fin 2)).val, (i (1 : Fin 2)).isLt⟩

/-- The first gate's product, row block by row block. -/
def gateX (c : Dev nD) : Vec F S4096x8 .f32 := fun i => k0_pay2 (blk W c 0 (pt (C := 8) i)) (blk W c 1 (pt (C := 8) i)) (place (C := 8) i)
/-- The second gate's product. -/
def gateY (c : Dev nD) : Vec F S4096x8 .f32 := fun i => k0_pay3 (blk W c 0 (pt (C := 8) i)) (blk W c 2 (pt (C := 8) i)) (place (C := 8) i)
/-- The experts' product. -/
def scores (c : Dev nD) : Vec F S4096x64 .f32 := fun i => k0_pay4 (blk W c 0 (pt (C := 64) i)) (blk W c 3 (pt (C := 64) i)) (place (C := 64) i)

/-- `v` agrees with `G` in the first `n` blocks of rows. -/
def Upto (C n : ℕ) (G v : Vec F ⟨2, ![4096, C]⟩ .f32) : Prop :=
  ∀ y : (⟨2, ![4096, C]⟩ : Shape).Idx, (y (0 : Fin 2)).val < 1024 * n → v y = G y

/-- Placing the next block of rows of `G` extends the agreement by one block. -/
theorem Upto.step {C n : ℕ} {G v v' : Vec F ⟨2, ![4096, C]⟩ .f32} {p : Vec F ⟨2, ![1024, C]⟩ .f32} (h : Upto C n G v)
    (hp : Placed C n p v v') (hG : ∀ y : (⟨2, ![4096, C]⟩ : Shape).Idx, (y (0 : Fin 2)).val / 1024 = n → G y = p (place y)) :
    Upto C (n + 1) G v' := fun y hy => by
  by_cases hn : (y (0 : Fin 2)).val < 1024 * n
  · rw [hp.2 y hn, h y hn]
  · rw [hG y (by omega)]
    refine hp.1 y (place y) ?_ rfl
    show (y (0 : Fin 2)).val = 1024 * n + (y (0 : Fin 2)).val % 1024
    omega

/-- Four blocks of rows are all of them. -/
theorem Upto.full {C n : ℕ} {G v : Vec F ⟨2, ![4096, C]⟩ .f32} (h : Upto C n G v) (hn : 4 ≤ n) : v = G :=
  funext fun y => h y (by have : (y (0 : Fin 2)).val < 4096 := (y (0 : Fin 2)).isLt; omega)

/-- The point that last wrote the first output's block of point `t`: the last point writes none and holds point 3's. -/
def cap (t : Fin cfg0.N) : Fin cfg0.N := ⟨min t.val 3, Nat.lt_of_le_of_lt (Nat.min_le_left _ _) t.isLt⟩

/-- The scoped buffers that are neither staging nor scratch of this region. -/
abbrev others (c : Dev nD) : sProp 𝕄 := Pipeline.scopedRestBut spec0 c [cc0_scratch0, cc0_scratch1, cc0_scratch2]

/-- Between the points: the scratch buffers hold the first `n` blocks of rows of the three products. -/
def inv (c : Dev nD) (n : ℕ) : sProp 𝕄 :=
  iprop((∃ lx, ⌜Upto 8 n (gateX W c) lx⌝ ∗ owns (c : Thread nD τ) (Memref.whole cc0_scratch0) fullShare lx)
    ∗ (∃ ly, ⌜Upto 8 n (gateY W c) ly⌝ ∗ owns (c : Thread nD τ) (Memref.whole cc0_scratch1) fullShare ly)
    ∗ (∃ s, ⌜Upto 64 n (scores W c) s⌝ ∗ owns (c : Thread nD τ) (Memref.whole cc0_scratch2) fullShare s)
    ∗ others c ∗ ∃ r, prngReg c r)

/-- The region's proof data on core `c`. -/
def dat (c : Dev nD) : Dat τ (Elt F) Unit ℕ (UR sig nD τ) ℕ cfg0 c where
  A w := W c (Proc.devRef .tc (Pipeline.arrRef spec0 w))
  after w t := match w with
    | ⟨0, _⟩ => blk W c 0 t
    | ⟨1, _⟩ => blk W c 1 t
    | ⟨2, _⟩ => blk W c 2 t
    | ⟨3, _⟩ => blk W c 3 t
    | ⟨4, _⟩ => k0_pay5 (blk W c 0 (cap t))
    | ⟨5, _⟩ => routed (gateX W c) (gateY W c) (scores W c)
  Φ t := inv W c t.val
  q _ := fullShare
  owed _ := 0

/-- The arrays of the proof data are the entry contents. -/
theorem dat_A (c : Dev nD) (w : Fin cfg0.W) : (dat W c).A w = W c (Proc.devRef .tc (Pipeline.arrRef spec0 w)) := by
  dsimp only [dat]

/-- The body keeps the tile of input 0; the three theorems after it say the same of the other inputs. -/
theorem after_0 (c : Dev nD) (t : Fin cfg0.N) : (dat W c).after 0 t = blk W c 0 t := by dsimp only [dat]
theorem after_1 (c : Dev nD) (t : Fin cfg0.N) : (dat W c).after 1 t = blk W c 1 t := by dsimp only [dat]
theorem after_2 (c : Dev nD) (t : Fin cfg0.N) : (dat W c).after 2 t = blk W c 2 t := by dsimp only [dat]
theorem after_3 (c : Dev nD) (t : Fin cfg0.N) : (dat W c).after 3 t = blk W c 3 t := by dsimp only [dat]
/-- The body leaves the rounded block of rows in the first output's tile. -/
theorem after_4 (c : Dev nD) (t : Fin cfg0.N) : (dat W c).after 4 t = k0_pay5 (blk W c 0 (cap t)) := by dsimp only [dat]
/-- The body leaves the routing in the second output's tile. -/
theorem after_5 (c : Dev nD) (t : Fin cfg0.N) : (dat W c).after 5 t = routed (gateX W c) (gateY W c) (scores W c) := by
  dsimp only [dat]

/-- Input 0's tile is its block whenever the body runs, whether or not this point staged it anew; likewise the other inputs. -/
theorem before_0 (c : Dev nD) (t : Fin cfg0.N) (d) : (dat W c).before 0 t d = blk W c 0 t :=
  ((dat W c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg0.N) (d) : (dat W c).before 1 t d = blk W c 1 t :=
  ((dat W c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg0.N) (d) : (dat W c).before 2 t d = blk W c 2 t :=
  ((dat W c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem before_3 (c : Dev nD) (t : Fin cfg0.N) (d) : (dat W c).before 3 t d = blk W c 3 t :=
  ((dat W c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)

/-- The points before the last take the first branch only, the last the second only. -/
theorem branches : ∀ t : Fin grid0.N, (t.val < 4 → k0_cond1 (grid0.coords t) = 1#1 ∧ ¬ k0_cond2 (grid0.coords t) = 1#1)
    ∧ (¬ t.val < 4 → ¬ k0_cond1 (grid0.coords t) = 1#1 ∧ k0_cond2 (grid0.coords t) = 1#1) ∧ (grid0.coords t 0).val = t.val := by
  decide +kernel

/-- Which points leave the outputs' tiles alone. -/
theorem idles : ∀ t : Fin grid0.N, (t.val < 4 → idle0 4 (grid0.coords t) = false ∧ idle0 5 (grid0.coords t) = true)
    ∧ (¬ t.val < 4 → idle0 4 (grid0.coords t) = true ∧ idle0 5 (grid0.coords t) = false) := by
  decide +kernel

/-- The first output is written back at every point but point 3, whose tile the last point writes back. -/
theorem flush_4 : ∀ t : Fin grid0.N, win0_4.flush t = true ↔ t.val ≠ 3 := by
  decide +kernel

/-- At the last point the first output's tile still holds what point 3 left, which is what the last point owes. -/
theorem before_4 (c : Dev nD) (t : Fin cfg0.N) (h : ¬ t.val < 4) (d) : (dat W c).before 4 t d = (dat W c).after 4 t := by
  have ht : t.val < 5 := lt_of_lt_of_eq t.isLt N_0
  have hf : (cfg0.win 4).flush ⟨t.val - 1, Nat.lt_of_le_of_lt (Nat.sub_le _ _) t.isLt⟩ = false :=
    Bool.eq_false_iff.mpr fun h' => (flush_4 _).mp h' (by show t.val - 1 = 3; omega)
  have hi : cfg0.idle 4 (cfg0.grid.coords ⟨t.val - 1, Nat.lt_of_le_of_lt (Nat.sub_le _ _) t.isLt⟩) = false :=
    ((idles _).1 (by show t.val - 1 < 4; omega)).1
  rw [(dat W c).before_of_pos 4 t (by omega) ((cfg0.win 4).fetch_out rfl t), hf, if_neg Bool.false_ne_true]
  unfold Dat.left
  rw [hi]
  dsimp only
  unfold Dat.kept
  rw [Pipeline.fill_of_clip_none 4 _ (fun _ => rfl) d ((dat W c).after 4 _), Window.fill_cut, after_4, after_4]
  congr 2
  unfold cap; apply Fin.ext
  show min (t.val - 1) 3 = min t.val 3
  omega

/-- What the body is entered with at point `t`, window by window. -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d))
    ∗ (∃ d, owns (c : Thread nD τ) (st0_5 t) fullShare ((dat W c).before 5 t d)))

/-- What it is left with, the second output's tile apart. -/
def bodyPost (c : Dev nD) (t : Fin cfg0.N) (P : sProp 𝕄) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t)
    ∗ owns (c : Thread nD τ) (st0_4 t) fullShare ((dat W c).after 4 t) ∗ P)

set_option maxHeartbeats 1000000 in
/-- The body at one of the first four points. -/
theorem sound_rows (c : Dev nD) (t : Fin cfg0.N) (h : t.val < 4) :
    bodyPre W c t ⊢ wp frame (wpE (defs₀ (F := F)) Variants.none c none) Set.univ (bodyAt0 t)
      (fun _ => bodyPost W c t iprop(∃ d, owns (c : Thread nD τ) (st0_5 t) fullShare ((dat W c).before 5 t d))) := by
  unfold bodyPre bodyPost bodyAt0
  simp only [before_0, before_1, before_2, before_3]
  rw [show (dat W c).Φ t.succ = inv W c (t.val + 1) from rfl, show (dat W c).Φ t.castSucc = inv W c t.val from rfl,
    show (dat W c).owesAt () t.succ = (dat W c).owesAt () t.castSucc from rfl,
    after_0, after_1, after_2, after_3, after_4, show cap t = t from Fin.ext (Nat.min_eq_left (by omega))]
  obtain ⟨hc1, hc2⟩ := (branches t).1 h
  have hn : (grid0.coords t 0).val = t.val := (branches t).2.2
  have gX : ∀ y : (⟨2, ![4096, 8]⟩ : Shape).Idx, (y (0 : Fin 2)).val / 1024 = t.val →
      gateX W c y = k0_pay2 (blk W c 0 t) (blk W c 1 t) (place y) := fun y hy => by
    have e : pt (C := 8) y = t := Fin.ext hy
    unfold gateX; rw [e]
  have gY : ∀ y : (⟨2, ![4096, 8]⟩ : Shape).Idx, (y (0 : Fin 2)).val / 1024 = t.val →
      gateY W c y = k0_pay3 (blk W c 0 t) (blk W c 2 t) (place y) := fun y hy => by
    have e : pt (C := 8) y = t := Fin.ext hy
    unfold gateY; rw [e]
  have gS : ∀ y : (⟨2, ![4096, 64]⟩ : Shape).Idx, (y (0 : Fin 2)).val / 1024 = t.val →
      scores W c y = k0_pay4 (blk W c 0 t) (blk W c 3 t) (place y) := fun y hy => by
    have e : pt (C := 64) y = t := Fin.ext hy
    unfold scores; rw [e]
  unfold inv
  iintro ⟨⟨⟨%lx, %ex, Hx⟩, ⟨%ly, %ey, Hy⟩, ⟨%s, %es, Hs⟩, Hr, Hp⟩, Ho, ⟨%d0, H0⟩, ⟨%d1, H1⟩, ⟨%d2, H2⟩, ⟨%d3, H3⟩, ⟨%d4, H4⟩, H5⟩
  iapply (body_rows c (grid0.coords t) _ _ _ _ _ _ _ _ _ _ _ _ _ _ _ _ _ _ (blk W c 0 t) (blk W c 1 t) (blk W c 2 t) (blk W c 3 t)
    lx ly s hc1 hc2 Set.univ _)
  isplitl [H0]; · iexact H0
  isplitl [H1]; · iexact H1
  isplitl [H2]; · iexact H2
  isplitl [H3]; · iexact H3
  isplitl [H4]; · iexists _; iexact H4
  isplitl [Hx]; · iexact Hx
  isplitl [Hy]; · iexact Hy
  isplitl [Hs]; · iexact Hs
  iintro ⟨H0, H1, H2, H3, H4, ⟨%lx', %px, Hx⟩, ⟨%ly', %py, Hy⟩, ⟨%s', %ps, Hs⟩⟩
  isplitl [Hx Hy Hs Hr Hp]
  · isplitl [Hx]
    · iexists lx'; isplitr; · ipureintro; exact ex.step (hn ▸ px) gX
      iexact Hx
    isplitl [Hy]
    · iexists ly'; isplitr; · ipureintro; exact ey.step (hn ▸ py) gY
      iexact Hy
    isplitl [Hs]
    · iexists s'; isplitr; · ipureintro; exact es.step (hn ▸ ps) gS
      iexact Hs
    isplitl [Hr]; · iexact Hr
    iexact Hp
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1000000 in
/-- The body at the last point. -/
theorem sound_last (c : Dev nD) (t : Fin cfg0.N) (h : ¬ t.val < 4) :
    bodyPre W c t ⊢ wp frame (wpE (defs₀ (F := F)) Variants.none c none) Set.univ (bodyAt0 t)
      (fun _ => bodyPost W c t (owns (c : Thread nD τ) (st0_5 t) fullShare ((dat W c).after 5 t))) := by
  unfold bodyPre bodyPost bodyAt0
  simp only [before_0, before_1, before_2, before_3, before_4 W c t h]
  rw [show (dat W c).Φ t.succ = inv W c (t.val + 1) from rfl, show (dat W c).Φ t.castSucc = inv W c t.val from rfl,
    show (dat W c).owesAt () t.succ = (dat W c).owesAt () t.castSucc from rfl,
    after_0, after_1, after_2, after_3, after_5]
  obtain ⟨hc1, hc2⟩ := (branches t).2.1 h
  unfold inv
  iintro ⟨⟨⟨%lx, %ex, Hx⟩, ⟨%ly, %ey, Hy⟩, ⟨%s, %es, Hs⟩, Hr, Hp⟩, Ho, ⟨%d0, H0⟩, ⟨%d1, H1⟩, ⟨%d2, H2⟩, ⟨%d3, H3⟩, ⟨%d4, H4⟩, ⟨%d5, H5⟩⟩
  obtain rfl := ex.full (by omega)
  obtain rfl := ey.full (by omega)
  obtain rfl := es.full (by omega)
  iapply (body_last c (grid0.coords t) _ _ _ _ _ _ _ _ _ _ _ _ _ _ _ _ _ _ (gateX W c) (gateY W c) (scores W c) hc1 hc2 Set.univ _)
  isplitl [H5]; · iexists _; iexact H5
  isplitl [Hx]; · iexact Hx
  isplitl [Hy]; · iexact Hy
  isplitl [Hs]; · iexact Hs
  iintro ⟨H5, Hx, Hy, Hs⟩
  isplitl [Hx Hy Hs Hr Hp]
  · isplitl [Hx]
    · iexists _; isplitr
      swap; · iexact Hx
      ipureintro; exact fun _ _ => rfl
    isplitl [Hy]
    · iexists _; isplitr
      swap; · iexact Hy
      ipureintro; exact fun _ _ => rfl
    isplitl [Hs]
    · iexists _; isplitr
      swap; · iexact Hs
      ipureintro; exact fun _ _ => rfl
    isplitl [Hr]; · iexact Hr
    iexact Hp
  isplitl [Ho]; · iexact Ho
  isplitl [H0]; · iexact H0
  isplitl [H1]; · iexact H1
  isplitl [H2]; · iexact H2
  isplitl [H3]; · iexact H3
  isplitl [H4]; · iexact H4
  iexact H5

/-- The body obligation of the region. -/
theorem obligation (c : Dev nD) : BodyObligation (dat W c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  by_cases h : t.val < 4
  · have i4 : cfg0.idle 4 (cfg0.grid.coords t) = false := ((idles t).1 h).1
    have i5 : cfg0.idle 5 (cfg0.grid.coords t) = true := ((idles t).1 h).2
    have f5 : (cfg0.win 5).flush t = false := Bool.eq_false_iff.mpr fun h' => by have := (flush0_5 t).mp h'; omega
    rw [i4, i5, f5]
    exact triple_restated (sound_rows W c t h) rfl .rfl fun _ => .rfl
  · have ht : t.val < 5 := lt_of_lt_of_eq t.isLt N_0
    have i4 : cfg0.idle 4 (cfg0.grid.coords t) = true := ((idles t).2 h).1
    have i5 : cfg0.idle 5 (cfg0.grid.coords t) = false := ((idles t).2 h).2
    have f4 : (cfg0.win 4).flush t = true := (flush_4 t).mpr (by omega)
    rw [i4, i5, f4]
    exact triple_restated (sound_last W c t h) rfl .rfl fun _ => .rfl

/-- The region's scoped rest: its three scratch buffers and the others. -/
theorem rest_split (c : Dev nD) :
    (Pipeline.scopedRest (Ix := Unit) (Name := ℕ) (U := UR sig nD τ) (Lvl := ℕ) (Val := Elt F) spec0 c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ ∃ f : Buf (Elt F) ((c : Thread nD τ).loc cc0_scratch2), ((c : Thread nD τ).loc cc0_scratch2) ↦{fullShare} f)
        ∗ others c) :=
  Pipeline.scopedRest_split_of_list spec0 c [cc0_scratch0, cc0_scratch1, cc0_scratch2] (by decide) (by decide)

/-- The scratch buffers, whatever they hold, start the region. -/
theorem enter (c : Dev nD) : Pipeline.ΦA spec0 c ⊢ (dat W c).Φ 0 := by
  rw [show (dat W c).Φ 0 = inv W c 0 from rfl]
  unfold Pipeline.ΦA inv
  rw [rest_split]
  simp only [owns_whole]
  iintro ⟨⟨⟨⟨%f0, H0⟩, ⟨%f1, H1⟩, ⟨%f2, H2⟩⟩, Hr⟩, Hp⟩
  isplitl [H0]
  · iexists f0; isplitr; · ipureintro; exact fun y hy => absurd hy (by omega)
    iexact H0
  isplitl [H1]
  · iexists f1; isplitr; · ipureintro; exact fun y hy => absurd hy (by omega)
    iexact H1
  isplitl [H2]
  · iexists f2; isplitr; · ipureintro; exact fun y hy => absurd hy (by omega)
    iexact H2
  isplitl [Hr]; · iexact Hr
  iexact Hp

/-- The region ends with the scratch buffers at some contents. -/
theorem leave (c : Dev nD) : (dat W c).Φ (Fin.last cfg0.N) ⊢ Pipeline.ΦA spec0 c := by
  rw [show (dat W c).Φ (Fin.last cfg0.N) = inv W c cfg0.N from rfl]
  unfold Pipeline.ΦA inv
  rw [rest_split]
  simp only [owns_whole]
  iintro ⟨⟨%f0, %e0, H0⟩, ⟨%f1, %e1, H1⟩, ⟨%f2, %e2, H2⟩, Hr, Hp⟩
  isplitl [H0 H1 H2 Hr]
  · isplitl [H0 H1 H2]
    · isplitl [H0]; · iexists f0; iexact H0
      isplitl [H1]; · iexists f1; iexact H1
      iexists f2; iexact H2
    iexact Hr
  iexact Hp

/-! ## The arrays the region leaves -/

/-- The first output: every block of rows rounded. -/
def rounded (c : Dev nD) : S4096x2048.Idx → Elt F .bf16 :=
  fun i => k0_pay5 (blk W c 0 (pt (C := 2048) i)) (place (C := 2048) i)

/-- The first output's block at point `t` is the block of rows of `cap t`. -/
theorem index_4 : ∀ t : Fin grid0.N, win0_4.index t (0 : Fin 2) = min t.val 3 ∧ win0_4.index t (1 : Fin 2) = 0 := by
  decide +kernel

/-- What a point that writes the first output back writes is its block of `rounded`. -/
theorem flushed_4 (c : Dev nD) (t : Fin cfg0.N) (hf : (cfg0.win 4).flush t = true) :
    (dat W c).flushed 4 t = ((cfg0.win 4).blk t).view.read (Elt F) (rounded W c) := by
  show (cfg0.win 4).cut (grid0.coords t) ((dat W c).after 4 t) = _
  rw [after_4]
  obtain ⟨e0, e1⟩ := index_4 t
  funext y
  have hy0 : (y 0).val < 1024 := (y 0).isLt
  have hy1 : (y 1).val < 2048 := (y 1).isLt
  have b0 : (((cfg0.win 4).blk t).view.emb y 0).val = win0_4.index t (0 : Fin 2) * 1024 + 1 * (y 0).val := rfl
  have b1 : (((cfg0.win 4).blk t).view.emb y 1).val = win0_4.index t (1 : Fin 2) * 2048 + 1 * (y 1).val := rfl
  show k0_pay5 (blk W c 0 (cap t)) ((cfg0.win 4).xinj (grid0.coords t) y) = rounded W c (((cfg0.win 4).blk t).view.emb y)
  have hp : place (C := 2048) (((cfg0.win 4).blk t).view.emb y) = (cfg0.win 4).xinj (grid0.coords t) y := by
    funext a; apply Fin.ext
    match a with
    | ⟨0, _⟩ => show (((cfg0.win 4).blk t).view.emb y 0).val % 1024 = (y 0).val; rw [b0]; omega
    | ⟨1, _⟩ => show (((cfg0.win 4).blk t).view.emb y 1).val = (y 1).val; rw [b1]; omega
  have hl : pt (C := 2048) (((cfg0.win 4).blk t).view.emb y) = cap t := by
    apply Fin.ext
    show (((cfg0.win 4).blk t).view.emb y 0).val / 1024 = min t.val 3
    rw [b0]; omega
  unfold rounded
  rw [hp]
  exact congrArg (fun s : Fin cfg0.N => k0_pay5 (blk W c 0 s) ((cfg0.win 4).xinj (grid0.coords t) y)) hl.symm

/-- Every index of the first output is in the block of some point that writes back. -/
theorem covered_4 (i : S4096x2048.Idx) : ∃ t : Fin cfg0.N, (cfg0.win 4).flush t = true ∧ i ∈ ((cfg0.win 4).blk t).view.set := by
  have h0 : (i 0).val < 4096 := (i 0).isLt
  have h1 : (i 1).val < 2048 := (i 1).isLt
  have hN : cfg0.N = 5 := N_0
  let t : Fin cfg0.N := ⟨if (i 0).val / 1024 = 3 then 4 else (i 0).val / 1024, by split <;> omega⟩
  have ht : t.val = if (i 0).val / 1024 = 3 then 4 else (i 0).val / 1024 := rfl
  refine ⟨t, (flush_4 t).mpr (by rw [ht]; split <;> omega), ?_⟩
  show i ∈ ((View.whole main_v1_0).slice (win0_4.rect t)).set
  rw [View.set_slice_whole, Rect.mem_set_unit]
  obtain ⟨e0, e1⟩ := index_4 t
  have hm : min t.val 3 = (i 0).val / 1024 := by rw [ht]; split <;> omega
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 2048 ≤ (i 1).val ∧ (i 1).val < win0_4.index t (1 : Fin 2) * 2048 + 2048; omega

/-- The first output after the region is `rounded`. -/
theorem final_4 (c : Dev nD) : (dat W c).arrAt 4 cfg0.N = rounded W c :=
  (dat W c).arrAt_eq_of_cover 4 _ (fun t hf => flushed_4 W c t hf) covered_4

/-- The second output's block is the whole of it at every point. -/
theorem index_5 : ∀ t : Fin grid0.N, win0_5.index t (0 : Fin 2) = 0 ∧ win0_5.index t (1 : Fin 2) = 0 := by
  decide +kernel

/-- The second output after the region is the routing. -/
theorem final_5 (c : Dev nD) : (dat W c).arrAt 5 cfg0.N = routed (gateX W c) (gateY W c) (scores W c) := by
  refine (dat W c).arrAt_eq_of_cover 5 _ (fun t hf => ?_) (fun i => ?_)
  · show (cfg0.win 5).cut (grid0.coords t) ((dat W c).after 5 t) = _
    rw [after_5]
    obtain ⟨e0, e1⟩ := index_5 t
    funext y
    have b0 : (((cfg0.win 5).blk t).view.emb y 0).val = win0_5.index t (0 : Fin 2) * 4096 + 1 * (y 0).val := rfl
    have b1 : (((cfg0.win 5).blk t).view.emb y 1).val = win0_5.index t (1 : Fin 2) * 64 + 1 * (y 1).val := rfl
    show routed (gateX W c) (gateY W c) (scores W c) ((cfg0.win 5).xinj (grid0.coords t) y)
      = routed (gateX W c) (gateY W c) (scores W c) (((cfg0.win 5).blk t).view.emb y)
    refine congrArg _ (funext fun a => Fin.ext ?_)
    match a with
    | ⟨0, _⟩ => show (y 0).val = (((cfg0.win 5).blk t).view.emb y 0).val; rw [b0]; omega
    | ⟨1, _⟩ => show (y 1).val = (((cfg0.win 5).blk t).view.emb y 1).val; rw [b1]; omega
  · have h0 : (i 0).val < 4096 := (i 0).isLt
    have h1 : (i 1).val < 64 := (i 1).isLt
    refine ⟨t0_4, (flush0_5 _).mpr (by decide), ?_⟩
    show i ∈ ((View.whole main_v1_1).slice (win0_5.rect t0_4)).set
    rw [View.set_slice_whole, Rect.mem_set_unit]
    obtain ⟨e0, e1⟩ := index_5 t0_4
    intro a
    match a with
    | ⟨0, _⟩ => show win0_5.index t0_4 (0 : Fin 2) * 4096 ≤ (i 0).val ∧ (i 0).val < win0_5.index t0_4 (0 : Fin 2) * 4096 + 4096; omega
    | ⟨1, _⟩ => show win0_5.index t0_4 (1 : Fin 2) * 64 ≤ (i 1).val ∧ (i 1).val < win0_5.index t0_4 (1 : Fin 2) * 64 + 64; omega

end Cert.KernelIdeal.Router

end
-- ==== Proof.KernelIdeal.Run.lean ====
/-
  The program's run: a host line, the router's region, the dense block's region, a host line. Every weakly fair execution from a
  memory with zero counters terminates with every buffer at the contents named here (`final`) and every counter at zero.
-/
module

public import proofs.«01_k».proof.Proof.KernelIdeal.MlpRegion
public import proofs.«01_k».proof.Proof.KernelIdeal.RouterRegion
public import proofs.«01_k».proof.Proof.Gen.KernelIdeal.Regions
public import Idealize.ShloMosaic.Lib.Pipeline.RegionArraysS
public import Idealize.ShloMosaic.Lib.Pipeline.FrameTail

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers when the router's region is entered. -/
def atRouter (c : Dev nD) : Valuation τ sig (Elt F) := V1 m c
/-- The buffers when the dense block's region is entered. -/
def atMlp (c : Dev nD) : Valuation τ sig (Elt F) := Pipeline.afterRegion (Router.dat (atRouter m) c) (atRouter m c)
/-- The buffers when it is left. -/
def atEnd (c : Dev nD) : Valuation τ sig (Elt F) := Pipeline.afterRegion (Mlp.dat (atMlp m) c) (atMlp m c)
/-- The buffers at the end of the program. -/
def final (c : Dev nD) : Valuation τ sig (Elt F) := StableHlo.after hostOps2 (atEnd m c)

/-- The two regions' proof data. -/
def pdats : (p : Fin 2) → (c : Dev nD) → Dat τ (Elt F) Unit ℕ (UR sig nD τ) ℕ (cfgs p) c
  | ⟨0, _⟩ => Router.dat (atRouter m)
  | ⟨1, _⟩ => Mlp.dat (atMlp m)

/-- The cells waits are recorded at: the TensorCores'. -/
def L : GSem nD τ sig → Finset Unit := fun g => if g.1.2 = .tc then {()} else ∅
/-- Every wait is at one level. -/
def lv : GSem nD τ sig → Unit → ℕ := fun _ _ => 0

/-- What rides beside the buffers from item to item: the core owes nothing, its generator register is at some state. -/
def E (c : Dev nD) : sProp 𝕄 :=
  iprop((∃ Wd, owes (c : Thread nD τ) (0 : CellTallies nD τ sig Unit) Wd) ∗ (∃ r, prngReg c r) ∗ emp)

/-- Owing nothing is above every level. -/
theorem cut (p : Fin 2) : Pipeline.LevelCut (pcfgs (F := F)) adm () L lv p (fun _ => (0 : CellTallies nD τ sig Unit)) (fun _ => 0) where
  hι _ _ _ := by unfold L; rw [if_pos rfl]; exact Finset.mem_singleton_self _
  hιb _ _ _ := Nat.le_refl _
  hD _ _ _ h := absurd h (Nat.lt_irrefl 0)

set_option backward.isDefEq.respectTransparency.types false in
/-- The router's region, entered from every unscoped buffer at `atRouter`. -/
def R0 : RegionSeg (pcfgs (F := F)) adm (pdats m) () defs₀ Variants.none L lv 0 :=
  RegionSeg.ofHeldIn _ _ _ _ _ _ _ _ 0 (fun _ => 0) (Pipeline.ucRefs τ sig) (fun c => iprop(∃ r, prngReg c r)) (fun c => iprop(∃ r, prngReg c r))
    launch0.toP rfl (fun c => (Router.obligation (atRouter m) c).loose) (fun _ _ => rfl) (fun _ => rfl)
    (fun c w => Dat.share_full _ (fun _ => rfl) w)
    (fun c => Router.enter (atRouter m) c) (fun c => Router.leave (atRouter m) c) (fun _ => 0) (cut 0) (fun _ => iprop(emp))
    (atRouter m) (fun c w => rfl)

set_option backward.isDefEq.respectTransparency.types false in
/-- The dense block's region, entered from every unscoped buffer at `atMlp`. -/
def R1 : RegionSeg (pcfgs (F := F)) adm (pdats m) () defs₀ Variants.none L lv 1 :=
  RegionSeg.ofHeldIn _ _ _ _ _ _ _ _ 1 (fun _ => 0) (Pipeline.ucRefs τ sig) (fun c => iprop(∃ r, prngReg c r)) (fun c => iprop(∃ r, prngReg c r))
    launch1.toP rfl (fun c => (Mlp.obligation (atMlp m) c).loose) (fun _ _ => rfl) (fun _ => rfl)
    (fun c w => Dat.share_full _ (fun _ => rfl) w)
    (fun c => .rfl) (fun c => .rfl) (fun _ => 0) (cut 1) (fun _ => iprop(emp))
    (atMlp m) (fun c w => rfl)

/-- The two regions' arrays are unscoped buffers. -/
theorem arrs0 : Pipeline.arrRefs (τ := τ) spec0 ⊆ Pipeline.ucRefs τ sig := Pipeline.arrRefs_sub_ucRefs spec0 (by decide)
theorem arrs1 : Pipeline.arrRefs (τ := τ) spec1 ⊆ Pipeline.ucRefs τ sig := Pipeline.arrRefs_sub_ucRefs spec1 (by decide)

/-- The router's region is entered from every unscoped buffer at `atRouter`; the three theorems after it: how it is left, and the
same of the dense block's region. -/
theorem R0_pre (c : Dev nD) :
    iprop(StableHlo.held (c : Thread nD τ) (Pipeline.ucRefs τ sig) (atRouter m c) ∗ E c) ⊢ (R0 m).pre c := by
  show _ ⊢ iprop(StableHlo.held (c : Thread nD τ) (Pipeline.arrRefs spec0) (atRouter m c) ∗ (∃ r, prngReg c r)
    ∗ (StableHlo.held (c : Thread nD τ) (Pipeline.ucRefs τ sig \ Pipeline.arrRefs spec0) (atRouter m c) ∗ emp)
    ∗ ∃ Wd, owes (c : Thread nD τ) (0 : CellTallies nD τ sig Unit) Wd)
  rw [StableHlo.held_sub_split (c : Thread nD τ) arrs0 (atRouter m c)]
  unfold E
  iintro ⟨⟨Ha, Hu⟩, HO, HX, HR⟩
  isplitl [Ha]; · iexact Ha
  isplitl [HX]; · iexact HX
  isplitl [Hu HR]
  · isplitl [Hu]; · iexact Hu
    iexact HR
  iexact HO
theorem R0_post (c : Dev nD) :
    (R0 m).post c ⊢ iprop(StableHlo.held (c : Thread nD τ) (Pipeline.ucRefs τ sig) (atMlp m c) ∗ E c) := by
  show iprop(StableHlo.held (c : Thread nD τ) (Pipeline.arrRefs spec0) (atMlp m c) ∗ (∃ r, prngReg c r)
    ∗ (StableHlo.held (c : Thread nD τ) (Pipeline.ucRefs τ sig \ Pipeline.arrRefs spec0) (atRouter m c) ∗ emp)
    ∗ ∃ Wd, owes (c : Thread nD τ) (0 : CellTallies nD τ sig Unit) Wd) ⊢ _
  rw [StableHlo.held_sub_split (c : Thread nD τ) arrs0 (atMlp m c),
    StableHlo.held_congr (c : Thread nD τ) (S := Pipeline.ucRefs τ sig \ Pipeline.arrRefs spec0) (V := atMlp m c) (V' := atRouter m c)
      (Pipeline.afterRegion_off (Router.dat (atRouter m) c) (atRouter m c) (Pipeline.ucRefs τ sig))]
  unfold E
  iintro ⟨Ha, HY, ⟨Hu, HR⟩, HO⟩
  isplitl [Ha Hu]
  · isplitl [Ha]; · iexact Ha
    iexact Hu
  isplitl [HO]; · iexact HO
  isplitl [HY]; · iexact HY
  iexact HR
theorem R1_pre (c : Dev nD) :
    iprop(StableHlo.held (c : Thread nD τ) (Pipeline.ucRefs τ sig) (atMlp m c) ∗ E c) ⊢ (R1 m).pre c := by
  show _ ⊢ iprop(StableHlo.held (c : Thread nD τ) (Pipeline.arrRefs spec1) (atMlp m c) ∗ (∃ r, prngReg c r)
    ∗ (StableHlo.held (c : Thread nD τ) (Pipeline.ucRefs τ sig \ Pipeline.arrRefs spec1) (atMlp m c) ∗ emp)
    ∗ ∃ Wd, owes (c : Thread nD τ) (0 : CellTallies nD τ sig Unit) Wd)
  rw [StableHlo.held_sub_split (c : Thread nD τ) arrs1 (atMlp m c)]
  unfold E
  iintro ⟨⟨Ha, Hu⟩, HO, HX, HR⟩
  isplitl [Ha]; · iexact Ha
  isplitl [HX]; · iexact HX
  isplitl [Hu HR]
  · isplitl [Hu]; · iexact Hu
    iexact HR
  iexact HO
theorem R1_post (c : Dev nD) :
    (R1 m).post c ⊢ iprop(StableHlo.held (c : Thread nD τ) (Pipeline.ucRefs τ sig) (atEnd m c) ∗ E c) := by
  show iprop(StableHlo.held (c : Thread nD τ) (Pipeline.arrRefs spec1) (atEnd m c) ∗ (∃ r, prngReg c r)
    ∗ (StableHlo.held (c : Thread nD τ) (Pipeline.ucRefs τ sig \ Pipeline.arrRefs spec1) (atMlp m c) ∗ emp)
    ∗ ∃ Wd, owes (c : Thread nD τ) (0 : CellTallies nD τ sig Unit) Wd) ⊢ _
  rw [StableHlo.held_sub_split (c : Thread nD τ) arrs1 (atEnd m c),
    StableHlo.held_congr (c : Thread nD τ) (S := Pipeline.ucRefs τ sig \ Pipeline.arrRefs spec1) (V := atEnd m c) (V' := atMlp m c)
      (Pipeline.afterRegion_off (Mlp.dat (atMlp m) c) (atMlp m c) (Pipeline.ucRefs τ sig))]
  unfold E
  iintro ⟨Ha, HY, ⟨Hu, HR⟩, HO⟩
  isplitl [Ha Hu]
  · isplitl [Ha]; · iexact Ha
    iexact Hu
  isplitl [HO]; · iexact HO
  isplitl [HY]; · iexact HY
  iexact HR

/-- The program's items. -/
def items (c : Dev nD) : List (Seg (pcfgs (F := F)) adm (pdats m) () defs₀ Variants.none L lv) :=
  [.host (seg0 m Variants.none L lv (fun _ => E)), .region (R0 m), .region (R1 m),
    .host (HostSeg.ofOps _ _ _ _ _ (Pipeline.ucRefs τ sig) hostOps2
      (fun op h => Pipeline.sub_ucRefs op ((List.forall_iff_forall_mem.mp hostOps2_sub) op h))
      (fun op h => (List.forall_iff_forall_mem.mp hostOps2_fresh) op h) (atEnd m) E)]

set_option backward.isDefEq.respectTransparency.types false in
/-- Every weakly fair execution ends with every unscoped buffer at `final` and every counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = final m c b) ∧ r.2.sem = fun _ => 0) := by
  refine Pipeline.θ_run_regions_kit_dev_sems (pcfgs (F := F)) adm (pdats m) () cellOf_inj emb₁ defs₀ Variants.none L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (fun _ => 0)
    (fun g h => if_neg h) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ E c))
    (Tₙ := fun c => StableHlo.held (c : Thread nD τ) (Pipeline.ucRefs τ sig) (final m c))
    (hch := fun c => ⟨.rfl, ?_, ?_, ?_, ?_⟩)
    (hinit := ?_) (QY := fun c s => ∀ b ∈ Pipeline.ucRefs τ sig, s.mem ((c.tc : Thread nD τ).1, b) = final m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · exact R0_pre m c
  · exact (R0_post m c).trans (R1_pre m c)
  · exact R1_post m c
  · refine sep_mono .rfl ?_
    unfold E
    iintro ⟨HO, -, -⟩
    iexact HO
  · refine Pipeline.initEach L lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    unfold E
    iintro ⟨⟨Hh, -, HO, -, Hp, -⟩, -⟩
    imodintro
    isplitl [Hh]; · iexact Hh
    isplitl [HO]; · iexists _; iexact HO
    isplitl [Hp]; · iexists _; iexact Hp
    iempintro
  · unfold StableHlo.held
    iintro ⟨Hh, HSI⟩
    ihave Hr := (pointsTo_read_all (Pipeline.ucRefs τ sig) (fun b => ((c.tc : Thread nD τ).1, b)) (final m c) s') $$ [Hh HSI]
    · isplitl [Hh] <;> iassumption
    imodintro; iexact Hr

/-- A buffer no item writes ends as launched. -/
theorem final_keeps (c : Dev nD) (r : Ref sig .tc) (h : r ∉ ([main_v0, main_v1_0, main_v1_1, main_v2, main_v3] : List (Ref sig .tc))) :
    final m c r = m ((c : Thread nD τ).loc r) := by
  simp only [List.mem_cons, List.not_mem_nil, or_false, not_or] at h
  obtain ⟨h0, h1, h2, h3, h4⟩ := h
  unfold final
  rw [StableHlo.after_of_writes_sub hostOps2 _ hostOps2_writes (by simpa using h4)]
  unfold atEnd
  rw [Pipeline.afterRegion_keeps _ _ launch1.win.arr_inj (Mlp.dat_A _ c) r (fun w hw => by
    subst hw; revert h3; fin_cases w <;> first | exact fun _ => rfl | exact fun h3 => absurd rfl h3)]
  unfold atMlp
  rw [Pipeline.afterRegion_keeps _ _ launch0.win.arr_inj (Router.dat_A _ c) r (fun w hw => by
    subst hw; revert h1 h2; fin_cases w <;> first | exact fun _ _ => rfl | exact fun h1 _ => absurd rfl h1 | exact fun _ h2 => absurd rfl h2)]
  exact (V1_of m c r (by simpa using h0)).trans rfl

end Cert.KernelIdeal.Run

end
-- ==== Proof.Frames.lean ====
/-
  Each program runs to the end from every memory, leaves its arguments as they were, and ends with every counter at zero.
-/
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Frames

open Idealize.ShloMosaic Idealize.ShloMosaic.TcCoe Idealize.SL.Sem

section Kernel
open Cert.Kernel

/-- A named argument of the kernel is among the buffers the run speaks about, and ends as launched. -/
theorem kernel_arg (m : (ℓ : Loc nD τ sig) → Buf (Elt Bits) ℓ) (c : Dev nD) (b : Ref sig .tc) (hb : b.isScoped = false)
    (h : b ∉ ([main_v0, main_v1_0, main_v1_1, main_v2, main_v3] : List (Ref sig .tc)))
    {r : MemSt nD τ sig (Elt Bits)} (hr : ∀ b ∈ Pipeline.ucRefs τ sig, r.mem ((c.tc : Thread nD τ).1, b) = Run.final m c b) :
    r.mem ((c.tc : Thread nD τ).loc b) = m ((c.tc : Thread nD τ).loc b) :=
  (hr b (Finset.mem_filter.mpr ⟨StableHlo.devRef_mem_tcRefs b, by simpa using hb⟩)).trans (Run.final_keeps m c b h)

/-- The kernel at machine floats runs, keeps its arguments and ends quiescent. -/
theorem kernel : Cert.quiescent_Kernel (hKernel := Cert.Kernel.Gen.facts) := fun m g _ =>
  (θ_run defs _ _).mono (fun r h => ⟨fun c =>
    ⟨kernel_arg m c main_arg0 rfl (by decide) (h.1 c), kernel_arg m c main_arg1 rfl (by decide) (h.1 c),
     kernel_arg m c main_arg2 rfl (by decide) (h.1 c), kernel_arg m c main_arg3 rfl (by decide) (h.1 c),
     kernel_arg m c main_arg4 rfl (by decide) (h.1 c), kernel_arg m c main_arg5 rfl (by decide) (h.1 c),
     kernel_arg m c main_arg6 rfl (by decide) (h.1 c), kernel_arg m c main_arg7 rfl (by decide) (h.1 c)⟩, h.2⟩) (Run.run m g)

end Kernel

section KernelIdeal
open Cert.KernelIdeal

/-- A named argument of the idealized kernel is among the buffers the run speaks about, and ends as launched. -/
theorem ideal_arg (m : (ℓ : Loc nD τ sig) → Buf (Elt Ideal) ℓ) (c : Dev nD) (b : Ref sig .tc) (hb : b.isScoped = false)
    (h : b ∉ ([main_v0, main_v1_0, main_v1_1, main_v2, main_v3] : List (Ref sig .tc)))
    {r : MemSt nD τ sig (Elt Ideal)} (hr : ∀ b ∈ Pipeline.ucRefs τ sig, r.mem ((c.tc : Thread nD τ).1, b) = Run.final m c b) :
    r.mem ((c.tc : Thread nD τ).loc b) = m ((c.tc : Thread nD τ).loc b) :=
  (hr b (Finset.mem_filter.mpr ⟨StableHlo.devRef_mem_tcRefs b, by simpa using hb⟩)).trans (Run.final_keeps m c b h)

/-- The kernel at extended reals runs, keeps its arguments and ends quiescent. -/
theorem kernelIdeal : Cert.quiescent_KernelIdeal (hKernelIdeal := Cert.KernelIdeal.Gen.facts) := fun m g _ =>
  (θ_run defs _ _).mono (fun r h => ⟨fun c =>
    ⟨ideal_arg m c main_arg0 rfl (by decide) (h.1 c), ideal_arg m c main_arg1 rfl (by decide) (h.1 c),
     ideal_arg m c main_arg2 rfl (by decide) (h.1 c), ideal_arg m c main_arg3 rfl (by decide) (h.1 c),
     ideal_arg m c main_arg4 rfl (by decide) (h.1 c), ideal_arg m c main_arg5 rfl (by decide) (h.1 c),
     ideal_arg m c main_arg6 rfl (by decide) (h.1 c), ideal_arg m c main_arg7 rfl (by decide) (h.1 c)⟩, h.2⟩) (Run.run m g)

end KernelIdeal

/-- The reference at extended reals runs, keeps its arguments and ends quiescent: it has no counter at all. -/
theorem referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run m g)

end Cert.Frames

end
-- ==== Proof.Maths.Gate.lean ====
/-
  One gate of the router: the logits of every token, normalised over the tokens, then the logarithm of the softmax of each token's
  eight. The kernel multiplies by a reciprocal square root where the reference divides by a square root.
-/
module

public import proofs.«01_k».proof.Proof.Gen.KernelIdeal.Skeleton
public import proofs.«01_k».proof.Proof.Gen.ReferenceIdeal.Run
public import Idealize.ShloMosaic.Lib.Pointwise

@[expose] public section

set_option maxRecDepth 16384

noncomputable section

namespace Cert.Maths

open Idealize.ShloMosaic

/-- The pattern of negative infinity denotes the least extended real. -/
theorem bits_neg_inf : Ideal.ofBits .f32 4286578688#32 = (⊥ : EReal) := by simp [Ideal.ofBits, Ideal.ieee]

/-- The pattern of the number of tokens. -/
theorem bits_count : Ideal.ofBits .f32 1166016512#32 = ((4096 : ℝ) : EReal) := by
  norm_num [Ideal.ofBits, Ideal.ieee, Nat.shiftRight_eq_div_pow, show BitVec.extractLsb' 31 1 1166016512#32 = 0#1 from by decide]

/-- The pattern of the small number under the root denotes a positive number. -/
theorem bits_eps : 0 < Ideal.ofBits .f32 925353388#32 := by
  norm_num [Ideal.ofBits, Ideal.ieee, Nat.shiftRight_eq_div_pow, show BitVec.extractLsb' 31 1 925353388#32 = 0#1 from by decide]

/-- A square is not negative. -/
theorem mul_self_nonneg' (x : EReal) : 0 ≤ x * x := by
  induction x using EReal.rec with
  | bot => simp
  | top => simp
  | coe r => exact_mod_cast mul_self_nonneg r

/-- A number that is not negative, over the number of tokens, is not negative. -/
theorem div_count_nonneg {x : EReal} (h : 0 ≤ x) : 0 ≤ Ideal.div x ((4096 : ℝ) : EReal) := by
  have h4 : ((4096 : ℝ) : EReal) ≠ 0 := by norm_num
  unfold Ideal.div
  rw [if_neg h4]
  exact mul_nonneg h (by rw [← EReal.coe_inv]; exact_mod_cast (by norm_num : (0 : ℝ) ≤ 4096⁻¹))

/-- Dividing by the root of a positive number is multiplying by its reciprocal root. -/
theorem div_sqrt {x v : EReal} (h : 0 < v) : Ideal.div x (Ideal.sqrt v) = x * Ideal.rsqrt v := by
  induction v using EReal.rec with
  | bot => exact absurd h (by simp)
  | top =>
    show Ideal.div x ⊤ = x * 0
    simp [Ideal.div]
  | coe r =>
    have hr : 0 < r := by exact_mod_cast h
    have hs : ((Real.sqrt r : ℝ) : EReal) ≠ 0 := by exact_mod_cast (Real.sqrt_pos.mpr hr).ne'
    rw [Ideal.sqrt_coe, Ideal.rsqrt_coe, if_neg (not_lt.mpr hr.le), if_neg (not_lt.mpr hr.le), if_neg hr.ne', Ideal.div, if_neg hs,
      EReal.coe_inv]

/-- The mean over the tokens. -/
def mean (z : Fin 4096 → EReal) : EReal := Ideal.div (∑ n, z n) (Ideal.ofBits .f32 1166016512#32)

/-- The variance over the tokens. -/
def variance (z : Fin 4096 → EReal) : EReal :=
  Ideal.div (∑ n, (z n - mean z) * (z n - mean z)) (Ideal.ofBits .f32 1166016512#32)

/-- One token's normalised logit. -/
def normal (z : Fin 4096 → EReal) (n : Fin 4096) : EReal :=
  (z n - mean z) * Ideal.rsqrt (variance z + Ideal.ofBits .f32 925353388#32)

/-- A logit less the greatest of its token's. -/
def shift (y : Fin 8 → EReal) (e : Fin 8) : EReal := y e - Finset.fold max (Ideal.ofBits .f32 4286578688#32) y Finset.univ

/-- The logarithm of the softmax of one token's logits. -/
def logSoftmax (y : Fin 8 → EReal) (e : Fin 8) : EReal := shift y e - Ideal.log (∑ x, Ideal.exp (shift y x))

/-- One gate's log-probability. -/
def gate (z : Fin 4096 → Fin 8 → EReal) (n : Fin 4096) : Fin 8 → EReal := logSoftmax fun e => normal (fun k => z k e) n

/-- What stands under the root is positive. -/
theorem variance_pos (z : Fin 4096 → EReal) : 0 < variance z + Ideal.ofBits .f32 925353388#32 := by
  refine lt_of_lt_of_le bits_eps (le_add_of_nonneg_left ?_)
  unfold variance
  rw [bits_count]
  exact div_count_nonneg (Finset.sum_nonneg fun n _ => mul_self_nonneg' _)

section Reference
open Cert.ReferenceIdeal Cert.ReferenceIdeal.Gen

/-- The reference's logits less their mean over the tokens, as its variance takes them. -/
def refDev (z : FVec Ideal S4096x8 .f32) : FVec Ideal S4096x8 .f32 :=
  subf z (broadcastInDim S4096x8 ![0, 1] bcast_S1x8_S4096x8_0_1 (Host.divf (broadcastInDim S1x8 ![1] bcast_S8_S1x8_1 (Host.reduceAdd z (constant S_ .f32 0x00000000#32) reducesTo_S4096x8_S8_d0 h_S_)) (broadcastInDim S1x8 ![] bcast_S_S1x8 (constant S_ .f32 0x45800000#32))))

/-- The number of tokens, as the reference's variance takes it. -/
def refCount : FVec Ideal S_ .f32 := subf (constant S_ .f32 0x45800000#32) (sitofp .f32 (constantI S_ 32 0#32))

/-- The reference's normalised logits. -/
def refNormal (z : FVec Ideal S4096x8 .f32) : FVec Ideal S4096x8 .f32 :=
  Host.divf (subf z (broadcastInDim S4096x8 ![0, 1] bcast_S1x8_S4096x8_0_1 (broadcastInDim S1x8 ![1] bcast_S8_S1x8_1 (Host.divf (Host.reduceAdd z (constant S_ .f32 0x00000000#32) reducesTo_S4096x8_S8_d0 h_S_) (broadcastInDim S8 ![] bcast_S_S8 (constant S_ .f32 0x45800000#32)))))) (broadcastInDim S4096x8 ![0, 1] bcast_S1x8_S4096x8_0_1 (broadcastInDim S1x8 ![1] bcast_S8_S1x8_1 (Host.sqrt (addf (select (broadcastInDim S8 ![] bcast_S_S8 (cmpf .ogt refCount (constant S_ .f32 0x00000000#32))) (Host.divf (Host.reduceAdd (mulf (refDev z) (refDev z)) (constant S_ .f32 0x00000000#32) reducesTo_S4096x8_S8_d0 h_S_) (broadcastInDim S8 ![] bcast_S_S8 refCount)) (broadcastInDim S8 ![] bcast_S_S8 (id (constant S_ .f32 0x7FC00000#32)))) (broadcastInDim S8 ![] bcast_S_S8 (constant S_ .f32 0x3727C5AC#32))))))

/-- The reference's logits less the greatest of each token. -/
def refShift (y : FVec Ideal S4096x8 .f32) : FVec Ideal S4096x8 .f32 :=
  subf y (broadcastInDim S4096x8 ![0, 1] bcast_S4096x1_S4096x8_0_1 (broadcastInDim S4096x1 ![0] bcast_S4096_S4096x1_0 (maximumf (broadcastInDim S4096 ![] bcast_S_S4096 (constant S_ .f32 0xFF800000#32)) (Host.reduce FloatOps.maximumf y (constant S_ .f32 0xFF800000#32) reducesTo_S4096x8_S4096_d1 h_S_))))

/-- The reference's logarithm of the softmax. -/
def refLogSoftmax (y : FVec Ideal S4096x8 .f32) : FVec Ideal S4096x8 .f32 :=
  subf (refShift y) (broadcastInDim S4096x8 ![0, 1] bcast_S4096x1_S4096x8_0_1 (Host.log (broadcastInDim S4096x1 ![0] bcast_S4096_S4096x1_0 (Host.reduceAdd (Host.exp (refShift y)) (constant S_ .f32 0x00000000#32) reducesTo_S4096x8_S4096_d1 h_S_))))

/-- The reference normalises as the kernel does. -/
theorem refNormal_eq (z : FVec Ideal S4096x8 .f32) (n : Fin 4096) (e : Fin 8) :
    refNormal z (ix2 n e) = normal (fun k => z (ix2 k e)) n := by
  pointwise [refNormal, refCount, refDev]
  have h0 : (FloatOps.sitofp .f32 0#32 : Ideal .f32) = (0 : EReal) := by simp [FloatOps.sitofp]
  have hc : (0 : EReal) < Ideal.ofBits .f32 1166016512#32 := by rw [bits_count]; norm_num
  rw [h0, sub_zero, if_pos hc]
  exact div_sqrt (variance_pos fun k => z (ix2 k e))

/-- The reference's logarithm of the softmax, token by token. -/
theorem refLogSoftmax_eq (y : FVec Ideal S4096x8 .f32) (n : Fin 4096) (e : Fin 8) :
    refLogSoftmax y (ix2 n e) = logSoftmax (fun x => y (ix2 n x)) e := by
  pointwise [refLogSoftmax, refShift]
  have hm (a : EReal) : max (Ideal.ofBits .f32 4286578688#32) a = a := by rw [bits_neg_inf]; exact max_eq_right bot_le
  simp only [hm]
  rfl

/-- The reference's gate. -/
theorem refGate_eq (z : FVec Ideal S4096x8 .f32) (n : Fin 4096) (e : Fin 8) :
    refLogSoftmax (refNormal z) (ix2 n e) = gate (fun n e => z (ix2 n e)) n e := by
  rw [refLogSoftmax_eq]
  exact congrFun (congrArg logSoftmax (funext fun x => refNormal_eq z n x)) e

end Reference

section Kernel
open Cert.KernelIdeal Cert.KernelIdeal.Gen

/-- The kernel's first gate. -/
theorem kernelGate_x (z : FVec Ideal S4096x8 .f32) (n : Fin 4096) (e : Fin 8) :
    k0_pay7 (F := Ideal) z (ix2 n e) = gate (fun n e => z (ix2 n e)) n e := by
  pointwise [k0_pay7]
  rfl

/-- The kernel's second gate. -/
theorem kernelGate_y (z : FVec Ideal S4096x8 .f32) (n : Fin 4096) (e : Fin 8) :
    k0_pay10 (F := Ideal) z (k0_pay8 z) (k0_pay9 z) (ix2 n e) = gate (fun n e => z (ix2 n e)) n e := by
  pointwise [k0_pay8, k0_pay9, k0_pay10]
  rfl

end Kernel

end Cert.Maths

end
-- ==== Proof.Maths.Combined.lean ====
/-
  The sixty-four combined log-probabilities of a token: column `8 a + b` is the first gate's `a` plus the second gate's `b`. The kernel
  spreads each gate over the columns by a matrix of zeros and ones; the reference adds two broadcasts and reshapes.
-/
module

public import proofs.«01_k».proof.Proof.Maths.Gate
public import proofs.«01_k».proof.Proof.KernelIdeal.RouterBody

@[expose] public section

set_option maxRecDepth 16384

noncomputable section

namespace Cert.Maths

open Idealize.ShloMosaic

/-- The first gate's position of a column. -/
def hi (c : Fin 64) : Fin 8 := ⟨c.val / 8, by omega⟩

/-- The second gate's position of a column. -/
def lo (c : Fin 64) : Fin 8 := ⟨c.val % 8, by omega⟩

section Kernel
open Cert.KernelIdeal Cert.KernelIdeal.Gen

/-- The first selecting matrix: one where the row is the column's first position. -/
theorem select_hi (r : Fin 8) (c : Fin 64) : k0_pay11 (F := Ideal) (ix2 r c) = if r = hi c then (1 : EReal) else 0 := by
  pointwise [k0_pay11]
  have hw : ∀ (r : Fin 8) (c : Fin 64), (BitVec.setWidth 32
        (IntOp.cmpi CmpIPredicate.eq (BitVec.ofNat 32 r.val)
          (Scalar.select
            (IntOp.andi
              (IntOp.cmpi CmpIPredicate.ne
                (IntOp.subi (BitVec.setWidth 32 (IntOp.cmpi CmpIPredicate.sgt (BitVec.ofNat 32 c.val) 0#32))
                  (BitVec.setWidth 32 (IntOp.cmpi CmpIPredicate.slt (BitVec.ofNat 32 c.val) 0#32)))
                (Scalar.subi (Scalar.extui (Scalar.cmpi CmpIPredicate.sgt 8#32 0#32))
                  (Scalar.extui (Scalar.cmpi CmpIPredicate.slt 8#32 0#32))))
              (IntOp.cmpi CmpIPredicate.ne (IntOp.remsi ArithUnit.vector (BitVec.ofNat 32 c.val) 8#32) 0#32))
            (IntOp.subi (IntOp.divsi ArithUnit.vector (BitVec.ofNat 32 c.val) 8#32) 1#32)
            (IntOp.divsi ArithUnit.vector (BitVec.ofNat 32 c.val) 8#32))))
        = if r = hi c then 1#32 else 0#32 := by decide +kernel
  rw [hw]
  split <;> simp [FloatOps.sitofp]

/-- The kernel's combined log-probabilities. -/
theorem combined_eq (lx ly : Vec Ideal S4096x8 .f32) (n : Fin 4096) (c : Fin 64) :
    Router.combined lx ly (ix2 n c)
      = gate (fun n e => lx (ix2 n e)) n (hi c) + gate (fun n e => ly (ix2 n e)) n (lo c) := by
  unfold Router.combined
  pointwise [k0_pay12]
  have hw : ∀ (x : Fin 8) (c : Fin 64), (BitVec.setWidth 32
              (IntOp.cmpi CmpIPredicate.eq (BitVec.ofNat 32 x.val)
                (Scalar.select
                  (IntOp.andi
                    (IntOp.xori
                      (IntOp.cmpi CmpIPredicate.slt
                        (IntOp.remsi ArithUnit.vector (BitVec.ofNat 32 c.val)
                          (Scalar.select (Scalar.cmpi CmpIPredicate.eq 8#32 0#32) 1#32 8#32))
                        0#32)
                      (Scalar.cmpi CmpIPredicate.slt (Scalar.select (Scalar.cmpi CmpIPredicate.eq 8#32 0#32) 1#32 8#32)
                        0#32))
                    (IntOp.cmpi CmpIPredicate.ne
                      (IntOp.remsi ArithUnit.vector (BitVec.ofNat 32 c.val)
                        (Scalar.select (Scalar.cmpi CmpIPredicate.eq 8#32 0#32) 1#32 8#32))
                      0#32))
                  (IntOp.addi
                    (IntOp.remsi ArithUnit.vector (BitVec.ofNat 32 c.val)
                      (Scalar.select (Scalar.cmpi CmpIPredicate.eq 8#32 0#32) 1#32 8#32))
                    (Scalar.select (Scalar.cmpi CmpIPredicate.eq 8#32 0#32) 1#32 8#32))
                  (IntOp.remsi ArithUnit.vector (BitVec.ofNat 32 c.val)
                    (Scalar.select (Scalar.cmpi CmpIPredicate.eq 8#32 0#32) 1#32 8#32)))))
        = if x = lo c then 1#32 else 0#32 := by decide +kernel
  have hs : ∀ x : Fin 8, (FloatOps.sitofp .f32 (if x = lo c then 1#32 else 0#32) : Ideal .f32) = (if x = lo c then (1 : EReal) else 0) := by
    intro x
    split <;> simp [FloatOps.sitofp]
  simp only [hw, hs, select_hi, kernelGate_x, kernelGate_y, mul_ite, mul_one, mul_zero, Finset.sum_ite_eq', Finset.mem_univ, if_true]

end Kernel
end Cert.Maths
-- ==== Proof.Maths.Select.lean ====
/-
  The eight greatest of sixty-four, two ways. A stable sort lists the columns, greater first and equal ones in column order; and
  striking out the first of the greatest, again and again, takes the columns away in the same order. Once only infinitely negative
  columns are left the striking changes nothing more, and what it then leaves out weighs nothing.
-/
module

public import Idealize.ShloMosaic.Lib.SortPrefix
public import Idealize.ShloMosaic.Lib.Pointwise

@[expose] public section

noncomputable section

namespace Cert.Maths

open Idealize.ShloMosaic

/-- Column `a` is greater than column `b`, as the sort compares them. -/
def greater (f : Fin 64 → EReal) (a b : Fin 64) : Bool := decide (f b < f a)

/-- Column `a` comes before column `b`: it is greater, or equal and further left. -/
def ahead (f : Fin 64 → EReal) (a b : Fin 64) : Bool := decide (f b < f a) || (decide (f a = f b) && decide (a < b))

/-- Coming before is a strict total order. -/
theorem ahead_total (f : Fin 64 → EReal) : StrictTotalBefore (ahead f) :=
  StrictTotalBefore.of_key_then_position (fun a b : EReal => decide (b < a)) f (fun a => by simp)
    (fun a b c hab hbc => by
      simp only [decide_eq_true_eq] at hab hbc ⊢
      exact hbc.trans hab)
    (fun a b => by
      simp only [decide_eq_true_eq]
      rcases lt_trichotomy a b with h | h | h
      · exact Or.inr (Or.inr h)
      · exact Or.inr (Or.inl h)
      · exact Or.inl h)

/-- On columns listed left to right, the stable sort by value is the sort by value and then column. -/
theorem stable_eq (f : Fin 64 → EReal) (l : List (Fin 64)) (hl : l.Pairwise (· < ·)) :
    stableSort (greater f) l = stableSort (ahead f) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [greater, ahead, not_lt.mpr hab.le]

/-- Two relations that list the positions alike put the same position at each place. -/
theorem sortedFrom_of_list {n : ℕ} {R R' : Fin n → Fin n → Bool} (h : sortPositions n R = sortPositions n R') :
    sortedFrom R = sortedFrom R' := by
  funext k
  unfold sortedFrom
  rw [List.get_of_eq h]
  rfl

/-- The column the sort puts at each place. -/
def ranked (f : Fin 64 → EReal) : Fin 64 → Fin 64 := sortedFrom (ahead f)

/-- The stable sort by value puts the same column there. -/
theorem sorted_eq (f : Fin 64 → EReal) : sortedFrom (greater f) = ranked f := by
  exact sortedFrom_of_list (stable_eq f _ (List.pairwise_lt_finRange 64))

/-- No column stands at two places. -/
theorem ranked_injective (f : Fin 64 → EReal) : Function.Injective (ranked f) := sortedFrom_injective _

/-- Every column stands at some place. -/
theorem ranked_surjective (f : Fin 64 → EReal) : Function.Surjective (ranked f) := sortedFrom_surjective _

/-- An earlier place holds a column that comes before. -/
theorem ranked_ahead (f : Fin 64 → EReal) {i j : Fin 64} (h : i < j) : ahead f (ranked f i) (ranked f j) = true := by
  have hB := ahead_total f
  have hn : ahead f (ranked f j) (ranked f i) = false :=
    sortedFrom_noInversion (ahead f) (ahead f) (fun a b => hB.asymm a b) (fun _ _ h => h) hB.negTrans i j h
  rcases hB.total (ranked f i) (ranked f j) (fun e => h.ne (ranked_injective f e)) with h' | h'
  · exact h'
  · rw [hn] at h'; exact absurd h' (by decide)

/-- Column `j` is the first of the greatest. -/
def IsFirst (g : Fin 64 → EReal) (j : Fin 64) : Prop := (∀ c, g c ≤ g j) ∧ ∀ c, c < j → g c < g j

/-- There is a first of the greatest: the one the sort puts at the front. -/
theorem exists_first (g : Fin 64 → EReal) : ∃ j, IsFirst g j := by
  have key : ∀ c, c ≠ ranked g 0 → ahead g (ranked g 0) c = true := by
    intro c hc
    obtain ⟨i, rfl⟩ := ranked_surjective g c
    exact ranked_ahead g (Fin.pos_iff_ne_zero.mpr fun h => hc (by rw [h]))
  refine ⟨ranked g 0, fun c => ?_, fun c hc => ?_⟩
  · by_cases h : c = ranked g 0
    · rw [h]
    · have := key c h
      simp only [ahead, Bool.or_eq_true, Bool.and_eq_true, decide_eq_true_eq] at this
      rcases this with h | ⟨h, -⟩
      · exact h.le
      · exact h.ge
  · have := key c hc.ne
    simp only [ahead, Bool.or_eq_true, Bool.and_eq_true, decide_eq_true_eq] at this
    rcases this with h | ⟨-, h⟩
    · exact h
    · exact absurd h (not_lt.mpr hc.le)

/-- The row with the columns of the first `r` places struck out. -/
def struck (f : Fin 64 → EReal) (r : ℕ) (c : Fin 64) : EReal := if ∃ i : Fin 64, i.val < r ∧ ranked f i = c then ⊥ else f c

/-- With nothing struck out the row is itself. -/
theorem struck_zero (f : Fin 64 → EReal) : struck f 0 = f := by
  funext c
  simp [struck]

/-- Striking out the first of the greatest strikes out the next place. -/
theorem struck_succ (f : Fin 64 → EReal) {r : ℕ} (hr : r < 64) {j : Fin 64} (h : IsFirst (struck f r) j) (c : Fin 64) :
    struck f (r + 1) c = if c = j then ⊥ else struck f r c := by
  have hs : struck f r (ranked f ⟨r, hr⟩) = f (ranked f ⟨r, hr⟩) := by
    refine if_neg ?_
    rintro ⟨i, hi, e⟩
    have := ranked_injective f e
    rw [this] at hi
    exact absurd hi (lt_irrefl r)
  have hnext : struck f (r + 1) c = if c = ranked f ⟨r, hr⟩ then ⊥ else struck f r c := by
    by_cases hc : c = ranked f ⟨r, hr⟩
    · rw [if_pos hc]
      exact if_pos ⟨⟨r, hr⟩, Nat.lt_succ_self r, hc.symm⟩
    · rw [if_neg hc]
      refine if_congr ⟨?_, ?_⟩ rfl rfl
      · rintro ⟨i, hi, e⟩
        refine ⟨i, lt_of_le_of_ne (Nat.lt_succ_iff.mp hi) fun hir => hc ?_, e⟩
        rw [← e]
        exact congrArg (ranked f) (Fin.ext hir)
      · rintro ⟨i, hi, e⟩
        exact ⟨i, Nat.lt_succ_of_lt hi, e⟩
  rw [hnext]
  by_cases hj : struck f r j = ⊥
  · have hall : ∀ d, struck f r d = ⊥ := fun d => le_bot_iff.mp (hj ▸ h.1 d)
    simp only [hall, ite_self]
  · suffices hjr : j = ranked f ⟨r, hr⟩ by rw [hjr]
    obtain ⟨q, rfl⟩ := ranked_surjective f j
    have hq : ¬ ∃ i : Fin 64, i.val < r ∧ ranked f i = ranked f q := fun hex => hj (if_pos hex)
    have hfq : struck f r (ranked f q) = f (ranked f q) := if_neg hq
    have hrq : r ≤ q.val := not_lt.mp fun hlt => hq ⟨q, hlt, rfl⟩
    rcases hrq.lt_or_eq with hlt | heq
    · have hb := ranked_ahead f (i := ⟨r, hr⟩) (j := q) hlt
      simp only [ahead, Bool.or_eq_true, Bool.and_eq_true, decide_eq_true_eq] at hb
      rcases hb with hb | ⟨hb, hb'⟩
      · have := h.1 (ranked f ⟨r, hr⟩)
        rw [hs, hfq] at this
        exact absurd hb (not_lt.mpr this)
      · have := h.2 _ hb'
        rw [hs, hfq, hb] at this
        exact absurd this (lt_irrefl _)
    · exact congrArg (ranked f) (Fin.ext heq.symm)

/-- The greatest of a row is the value at the first of the greatest. -/
theorem fold_max_first {g : Fin 64 → EReal} {j : Fin 64} (h : IsFirst g j) : Finset.fold max ⊥ g Finset.univ = g j :=
  le_antisymm ((Finset.fold_max_le _).mpr ⟨bot_le, fun c _ => h.1 c⟩) ((Finset.le_fold_max _).mpr (Or.inr ⟨j, Finset.mem_univ j, le_rfl⟩))

/-- The least column number at which a row is greatest is the first of the greatest. -/
theorem fold_min_first {g : Fin 64 → EReal} {j : Fin 64} (h : IsFirst g j) :
    Finset.fold min ⊤ (fun c : Fin 64 => if g c = g j then ((c.val : ℝ) : EReal) else ((64 : ℝ) : EReal)) Finset.univ
      = ((j.val : ℝ) : EReal) := by
  refine le_antisymm ((Finset.fold_min_le _).mpr (Or.inr ⟨j, Finset.mem_univ j, by simp⟩))
    ((Finset.le_fold_min _).mpr ⟨le_top, fun c _ => ?_⟩)
  split
  · rename_i hc
    have : j ≤ c := not_lt.mp fun hlt => (h.2 c hlt).ne hc
    exact_mod_cast this
  · exact_mod_cast j.isLt.le

/-- A sum over the columns not infinitely negative to begin with but so after eight strikes is the sum over the first eight places. -/
theorem sum_struck (f w T : Fin 64 → EReal) (hw : ∀ c, f c = ⊥ → w c = 0) :
    ∑ c, (if struck f 8 c = ⊥ then w c else 0) * T c
      = ∑ k : Fin 8, w (ranked f (k.castLE (by decide))) * T (ranked f (k.castLE (by decide))) := by
  classical
  have h1 : ∀ c, (if struck f 8 c = ⊥ then w c else 0) * T c
      = if c ∈ Finset.univ.image (fun k : Fin 8 => ranked f (k.castLE (by decide))) then w c * T c else 0 := by
    intro c
    have hmem : c ∈ Finset.univ.image (fun k : Fin 8 => ranked f (k.castLE (by decide)))
        ↔ ∃ i : Fin 64, i.val < 8 ∧ ranked f i = c := by
      simp only [Finset.mem_image, Finset.mem_univ, true_and]
      constructor
      · rintro ⟨k, hk⟩
        exact ⟨k.castLE (by decide), k.isLt, hk⟩
      · rintro ⟨i, hi, hk⟩
        exact ⟨⟨i.val, hi⟩, hk⟩
    by_cases hc : ∃ i : Fin 64, i.val < 8 ∧ ranked f i = c
    · have hsc : struck f 8 c = ⊥ := if_pos hc
      rw [if_pos (hmem.mpr hc), if_pos hsc]
    · rw [if_neg (fun hm => hc (hmem.mp hm))]
      have hsc : struck f 8 c = f c := if_neg hc
      rw [hsc]
      split
      · rename_i hb
        rw [hw c hb, zero_mul]
      · rw [zero_mul]
  simp only [h1]
  rw [← Finset.sum_filter, Finset.filter_mem_eq_inter, Finset.univ_inter, Finset.sum_image]
  intro a _ b _ hab
  exact Fin.castLE_injective (by decide) (ranked_injective f hab)

end Cert.Maths
-- ==== Proof.Maths.Spec.lean ====
/-
  The result, entry by entry, of the argument arrays as plain functions: what both programs come to.
-/
module

public import proofs.«01_k».proof.Proof.Maths.Combined
public import proofs.«01_k».proof.Proof.Maths.Select

@[expose] public section

noncomputable section

namespace Cert.Maths

open Idealize.ShloMosaic

/-- A number times its logistic. -/
def silu (s : EReal) : EReal := s * Ideal.logistic s

/-- A row of `x` against a row of `w`. -/
def inner {N M : ℕ} (x : Fin N → Fin 2048 → EReal) (w : Fin M → Fin 2048 → EReal) (n : Fin N) (e : Fin M) : EReal := ∑ t, x n t * w e t

/-- The combined log-probabilities of a token. -/
def joint (x : Fin 4096 → Fin 2048 → EReal) (kx ky : Fin 8 → Fin 2048 → EReal) (n : Fin 4096) (c : Fin 64) : EReal :=
  gate (inner x kx) n (hi c) + gate (inner x ky) n (lo c)

/-- The expert at one of a token's first eight places. -/
def expert (x : Fin 4096 → Fin 2048 → EReal) (kx ky : Fin 8 → Fin 2048 → EReal) (n : Fin 4096) (k : Fin 8) : Fin 64 :=
  ranked (joint x kx ky n) (k.castLE (by decide))

/-- What the eight experts of a token contribute. -/
def experts (x : Fin 4096 → Fin 2048 → EReal) (kx ky : Fin 8 → Fin 2048 → EReal) (up down : Fin 64 → Fin 2048 → EReal)
    (n : Fin 4096) (d : Fin 2048) : EReal :=
  ∑ k : Fin 8, Ideal.exp (joint x kx ky n (expert x kx ky n k)) * silu (inner x up n (expert x kx ky n k)) * down (expert x kx ky n k) d

/-- One hidden unit of the dense layer, carried to one output. -/
def unit (x : Fin 4096 → Fin 2048 → EReal) (g u : Fin 8192 → Fin 2048 → EReal) (w : Fin 2048 → Fin 8192 → EReal) (n : Fin 4096)
    (d : Fin 2048) (j : Fin 8192) : EReal :=
  silu (inner x g n j) * inner x u n j * w d j

/-- The result. -/
def value (x : Fin 4096 → Fin 2048 → EReal) (g u : Fin 8192 → Fin 2048 → EReal) (w : Fin 2048 → Fin 8192 → EReal)
    (kx ky : Fin 8 → Fin 2048 → EReal) (up down : Fin 64 → Fin 2048 → EReal) (n : Fin 4096) (d : Fin 2048) : EReal :=
  ∑ j, unit x g u w n d j + experts x kx ky up down n d

end Cert.Maths
-- ==== Proof.Maths.Rounds.lean ====
/-
  The kernel's eight rounds on the combined log-probabilities: each finds the greatest of every row, the least column number at
  which it stands, and puts negative infinity there. What is negative infinity in the end is weighed by its exponential, the rest by zero.
-/
module

public import proofs.«01_k».proof.Proof.Maths.Combined
public import proofs.«01_k».proof.Proof.Maths.Select

@[expose] public section

set_option maxRecDepth 16384

noncomputable section

namespace Cert.Maths

open Idealize.ShloMosaic
open Cert.KernelIdeal Cert.KernelIdeal.Gen

/-- The mark of the first of the greatest of each row, by column numbers `col`. -/
def firstMark (col cur : FVec Ideal S4096x64 .f32) : IVec S4096x64 1 :=
  cmpf .oeq col (broadcastTo S4096x64 (shapeCast S4096x1 (multiReduction .minimumf [1] S4096 (select (cmpf .oeq cur (broadcastTo S4096x64 (shapeCast S4096x1 (multiReduction .maximumf [1] S4096 cur 0xFF800000#32 reduces_S4096x64_S4096 (.inl rfl) rfl) shapeCasts_S4096_S4096x1) broadcasts_S4096x1_S4096x64)) col (broadcast S4096x64 (Scalar.ofBits .f32 0x42800000#32))) 0x7F800000#32 reduces_S4096x64_S4096 (.inl rfl) rfl) shapeCasts_S4096_S4096x1) broadcasts_S4096x1_S4096x64)

/-- One round. -/
def strike (col cur : FVec Ideal S4096x64 .f32) : FVec Ideal S4096x64 .f32 :=
  select (firstMark col cur) (broadcast S4096x64 (Scalar.ofBits .f32 0xFF800000#32)) cur

/-- The column numbers. -/
abbrev col : FVec Ideal S4096x64 .f32 := k0_pay13 (F := Ideal)

/-- `r` rounds. -/
def strikes (cur : FVec Ideal S4096x64 .f32) : ℕ → FVec Ideal S4096x64 .f32
  | 0 => cur
  | r + 1 => strike col (strikes cur r)

/-- The pattern of infinity denotes the greatest extended real. -/
theorem bits_inf : Ideal.ofBits .f32 2139095040#32 = (⊤ : EReal) := by simp [Ideal.ofBits, Ideal.ieee]

/-- The pattern of the number of columns. -/
theorem bits_columns : Ideal.ofBits .f32 1115684864#32 = ((64 : ℝ) : EReal) := by
  norm_num [Ideal.ofBits, Ideal.ieee, Nat.shiftRight_eq_div_pow, show BitVec.extractLsb' 31 1 1115684864#32 = 0#1 from by decide]

/-- A column number is that of its column. -/
theorem col_eq (n : Fin 4096) (c : Fin 64) : col (ix2 n c) = ((c.val : ℝ) : EReal) := by
  pointwise [k0_pay13]
  have h : ∀ c : Fin 64, (BitVec.ofNat 32 c.val).toInt = c.val := by decide +kernel
  simp [FloatOps.sitofp, h]

/-- One round strikes out the first of the greatest of each row. -/
theorem strike_eq (cur : FVec Ideal S4096x64 .f32) (n : Fin 4096) {j : Fin 64} (h : IsFirst (fun c => cur (ix2 n c)) j) (c : Fin 64) :
    strike col cur (ix2 n c) = if c = j then ⊥ else cur (ix2 n c) := by
  pointwise [strike, firstMark]
  rw [bits_neg_inf, bits_inf, bits_columns, fold_max_first h]
  simp only [col_eq]
  rw [fold_min_first h]
  refine if_congr ?_ rfl rfl
  rw [EReal.coe_eq_coe_iff, Nat.cast_inj, Fin.ext_iff]

/-- `r` rounds strike out the first `r` places of each row. -/
theorem strikes_eq (cur : FVec Ideal S4096x64 .f32) (n : Fin 4096) (r : ℕ) (hr : r ≤ 64) (c : Fin 64) :
    strikes cur r (ix2 n c) = struck (fun c => cur (ix2 n c)) r c := by
  induction r generalizing c with
  | zero => rw [struck_zero]; rfl
  | succ r ih =>
    obtain ⟨j, hj⟩ := exists_first (struck (fun c => cur (ix2 n c)) r)
    have hrow : (fun c => strikes cur r (ix2 n c)) = struck (fun c => cur (ix2 n c)) r := funext (ih (by omega))
    rw [struck_succ _ (by omega) hj, ← hrow]
    exact strike_eq (strikes cur r) n (hrow ▸ hj) c

/-- What the rounds leave, weighed. -/
def weighed (f s : FVec Ideal S4096x64 .f32) : FVec Ideal S4096x64 .bf16 :=
  truncf .bf16 (mulf (select (cmpf .oeq (strikes f 8) (broadcast S4096x64 (Scalar.ofBits .f32 0xFF800000#32))) (exp f) (broadcast S4096x64 (Scalar.ofBits .f32 0x00000000#32))) (mulf s (logistic s))) bitsLt_bf16_f32

/-- The kernel's second output is eight such rounds, weighed. -/
theorem routed_weighed (lx ly : Vec Ideal S4096x8 .f32) (s : Vec Ideal S4096x64 .f32) :
    Router.routed lx ly s = weighed (Router.combined lx ly) s := by
  rfl

/-- The kernel's second output, entry by entry. -/
theorem routed_eq (lx ly : Vec Ideal S4096x8 .f32) (s : Vec Ideal S4096x64 .f32) (n : Fin 4096) (c : Fin 64) :
    Router.routed lx ly s (ix2 n c)
      = (if struck (fun c => Router.combined lx ly (ix2 n c)) 8 c = ⊥ then Ideal.exp (Router.combined lx ly (ix2 n c)) else 0)
        * (s (ix2 n c) * Ideal.logistic (s (ix2 n c))) := by
  rw [routed_weighed]
  pointwise [weighed]
  rw [bits_neg_inf, strikes_eq _ _ _ (by omega)]

end Cert.Maths
-- ==== Proof.Maths.Router.lean ====
/-
  What the first region leaves, entry by entry: the tokens again, and each token's weights of the sixty-four experts.
-/
module

public import proofs.«01_k».proof.Proof.Maths.Spec
public import proofs.«01_k».proof.Proof.Maths.Rounds
public import proofs.«01_k».proof.Proof.KernelIdeal.RouterRegion

@[expose] public section

set_option maxRecDepth 16384

noncomputable section

namespace Cert.Maths

open Idealize.ShloMosaic Idealize.ShloMosaic.TcCoe
open Cert.KernelIdeal Cert.KernelIdeal.Gen

variable (W : Dev nD → Valuation τ sig (Elt Ideal)) (c : Dev nD)

/-- The block of rows of the tokens at a point. -/
theorem index_tokens : ∀ t : Fin grid0.N, win0_0.index t (0 : Fin 2) = min t.val 3 ∧ win0_0.index t (1 : Fin 2) = 0 := by
  decide +kernel

/-- The weights are read whole at every point. -/
theorem index_weights : ∀ t : Fin grid0.N, (win0_1.index t (0 : Fin 2) = 0 ∧ win0_1.index t (1 : Fin 2) = 0)
    ∧ (win0_2.index t (0 : Fin 2) = 0 ∧ win0_2.index t (1 : Fin 2) = 0)
    ∧ win0_3.index t (0 : Fin 2) = 0 ∧ win0_3.index t (1 : Fin 2) = 0 := by
  decide +kernel

/-- A row of a block of the tokens. -/
theorem tokens_block (n : Fin 4096) (t : Fin cfg0.N) (ht : t.val = n.val / 1024) (r : Fin 1024) (hr : r.val = n.val % 1024) (d : Fin 2048) :
    Router.blk W c 0 t (ix2 r d) = W c (Proc.devRef .tc main_v0) (ix2 n d) := by
  obtain ⟨e0, e1⟩ := index_tokens t
  refine congrArg (W c (Proc.devRef .tc main_v0)) (funext fun a => Fin.ext ?_)
  have hn := n.isLt
  match a with
  | ⟨0, _⟩ => show win0_0.index t (0 : Fin 2) * 1024 + 1 * r.val = n.val; omega
  | ⟨1, _⟩ => show win0_0.index t (1 : Fin 2) * 2048 + 1 * d.val = d.val; omega

/-- The first gate's weights at a point. -/
theorem keysX_block (t : Fin cfg0.N) (e : Fin 8) (d : Fin 2048) :
    Router.blk W c 1 t (ix2 e d) = W c (Proc.devRef .tc main_arg4) (ix2 e d) := by
  obtain ⟨⟨e0, e1⟩, -, -⟩ := index_weights t
  refine congrArg (W c (Proc.devRef .tc main_arg4)) (funext fun a => Fin.ext ?_)
  match a with
  | ⟨0, _⟩ => show win0_1.index t (0 : Fin 2) * 8 + 1 * e.val = e.val; omega
  | ⟨1, _⟩ => show win0_1.index t (1 : Fin 2) * 2048 + 1 * d.val = d.val; omega

/-- The second gate's weights at a point. -/
theorem keysY_block (t : Fin cfg0.N) (e : Fin 8) (d : Fin 2048) :
    Router.blk W c 2 t (ix2 e d) = W c (Proc.devRef .tc main_arg5) (ix2 e d) := by
  obtain ⟨-, ⟨e0, e1⟩, -⟩ := index_weights t
  refine congrArg (W c (Proc.devRef .tc main_arg5)) (funext fun a => Fin.ext ?_)
  match a with
  | ⟨0, _⟩ => show win0_2.index t (0 : Fin 2) * 8 + 1 * e.val = e.val; omega
  | ⟨1, _⟩ => show win0_2.index t (1 : Fin 2) * 2048 + 1 * d.val = d.val; omega

/-- The experts' first table at a point. -/
theorem up_block (t : Fin cfg0.N) (e : Fin 64) (d : Fin 2048) :
    Router.blk W c 3 t (ix2 e d) = W c (Proc.devRef .tc main_arg6) (ix2 e d) := by
  obtain ⟨-, -, e0, e1⟩ := index_weights t
  refine congrArg (W c (Proc.devRef .tc main_arg6)) (funext fun a => Fin.ext ?_)
  match a with
  | ⟨0, _⟩ => show win0_3.index t (0 : Fin 2) * 64 + 1 * e.val = e.val; omega
  | ⟨1, _⟩ => show win0_3.index t (1 : Fin 2) * 2048 + 1 * d.val = d.val; omega

/-- The place of an index within its block of rows. -/
theorem place_eq {C : ℕ} (n : Fin 4096) (d : Fin C) :
    Router.place (C := C) (ix2 n d) = ix2 (⟨n.val % 1024, Nat.mod_lt _ (by decide)⟩ : Fin 1024) d := by
  funext a
  match a with
  | ⟨0, _⟩ => rfl
  | ⟨1, _⟩ => rfl

/-- The first gate's logits. -/
theorem gateX_eq (n : Fin 4096) (e : Fin 8) :
    Router.gateX W c (ix2 n e) = inner (fun n t => W c (Proc.devRef .tc main_v0) (ix2 n t))
      (fun e t => W c (Proc.devRef .tc main_arg4) (ix2 e t)) n e := by
  unfold Router.gateX
  rw [place_eq]
  pointwise [k0_pay2, k0_pay1]
  exact Finset.sum_congr rfl fun t _ => congrArg₂ (· * ·) (tokens_block W c n _ rfl _ rfl t) (keysX_block W c _ e t)

/-- The second gate's logits. -/
theorem gateY_eq (n : Fin 4096) (e : Fin 8) :
    Router.gateY W c (ix2 n e) = inner (fun n t => W c (Proc.devRef .tc main_v0) (ix2 n t))
      (fun e t => W c (Proc.devRef .tc main_arg5) (ix2 e t)) n e := by
  unfold Router.gateY
  rw [place_eq]
  pointwise [k0_pay3, k0_pay1]
  exact Finset.sum_congr rfl fun t _ => congrArg₂ (· * ·) (tokens_block W c n _ rfl _ rfl t) (keysY_block W c _ e t)

/-- The experts' scores. -/
theorem scores_eq (n : Fin 4096) (e : Fin 64) :
    Router.scores W c (ix2 n e) = inner (fun n t => W c (Proc.devRef .tc main_v0) (ix2 n t))
      (fun e t => W c (Proc.devRef .tc main_arg6) (ix2 e t)) n e := by
  unfold Router.scores
  rw [place_eq]
  pointwise [k0_pay4, k0_pay1]
  exact Finset.sum_congr rfl fun t _ => congrArg₂ (· * ·) (tokens_block W c n _ rfl _ rfl t) (up_block W c _ e t)

/-- The tokens come out as they went in. -/
theorem rounded_eq (n : Fin 4096) (d : Fin 2048) :
    Router.rounded W c (ix2 n d) = W c (Proc.devRef .tc main_v0) (ix2 n d) := by
  unfold Router.rounded
  rw [place_eq]
  pointwise [k0_pay5, k0_pay1]
  exact tokens_block W c n _ rfl _ rfl d

/-- The weights of the experts, against their second table, are the experts' contribution. -/
theorem contribution_eq (down : Fin 64 → Fin 2048 → EReal) (n : Fin 4096) (d : Fin 2048) :
    ∑ e : Fin 64, Router.routed (Router.gateX W c) (Router.gateY W c) (Router.scores W c) (ix2 n e) * down e d
      = experts (fun n t => W c (Proc.devRef .tc main_v0) (ix2 n t)) (fun e t => W c (Proc.devRef .tc main_arg4) (ix2 e t))
          (fun e t => W c (Proc.devRef .tc main_arg5) (ix2 e t)) (fun e t => W c (Proc.devRef .tc main_arg6) (ix2 e t)) down n d := by
  have hj : ∀ e, Router.combined (Router.gateX W c) (Router.gateY W c) (ix2 n e)
      = joint (fun n t => W c (Proc.devRef .tc main_v0) (ix2 n t)) (fun e t => W c (Proc.devRef .tc main_arg4) (ix2 e t))
          (fun e t => W c (Proc.devRef .tc main_arg5) (ix2 e t)) n e := by
    intro e
    rw [combined_eq]
    simp only [gateX_eq, gateY_eq]
    rfl
  simp only [routed_eq, hj, scores_eq, mul_assoc]
  rw [sum_struck _ (fun e => Ideal.exp _) (fun e => _ * (_ * down e d))]
  · unfold experts
    simp only [mul_assoc, silu]
    rfl
  · intro e he
    rw [he]
    rfl

end Cert.Maths
-- ==== Proof.Maths.Dense.lean ====
/-
  What the second region leaves, entry by entry: the experts' contribution first, then sixteen slices of the dense layer added one
  after another, which together are the whole of it.
-/
module

public import proofs.«01_k».proof.Proof.Maths.Spec
public import proofs.«01_k».proof.Proof.KernelIdeal.MlpRegion

@[expose] public section

set_option maxRecDepth 16384

noncomputable section

namespace Cert.Maths

open Idealize.ShloMosaic Idealize.ShloMosaic.TcCoe
open Cert.KernelIdeal Cert.KernelIdeal.Gen

variable (W : Dev nD → Valuation τ sig (Elt Ideal)) (c : Dev nD)

/-- The blocks each point of the second region reads. -/
theorem index_dense : ∀ t : Fin grid1.N, (win1_0.index t (0 : Fin 2) = t.val / 16 ∧ win1_0.index t (1 : Fin 2) = 0)
    ∧ (win1_1.index t (0 : Fin 2) = t.val % 16 ∧ win1_1.index t (1 : Fin 2) = 0)
    ∧ (win1_2.index t (0 : Fin 2) = t.val % 16 ∧ win1_2.index t (1 : Fin 2) = 0)
    ∧ (win1_3.index t (0 : Fin 2) = 0 ∧ win1_3.index t (1 : Fin 2) = t.val % 16)
    ∧ (win1_4.index t (0 : Fin 2) = t.val / 16 ∧ win1_4.index t (1 : Fin 2) = 0)
    ∧ win1_5.index t (0 : Fin 2) = 0 ∧ win1_5.index t (1 : Fin 2) = 0 := by
  decide +kernel

/-- The token of a row of a point's tile. -/
def token (t : Fin cfg1.N) (r : Fin 1024) : Fin 4096 :=
  ⟨1024 * (t.val / 16) + r.val, by have := lt_of_lt_of_eq t.isLt (show cfg1.N = 64 from N_1); omega⟩

/-- The hidden unit of a row of a point's slice. -/
def hidden (i : ℕ) (hi : i < 16) (q : Fin 512) : Fin 8192 := ⟨i * 512 + q.val, by omega⟩

/-- The tokens' tile at a point. -/
theorem dense_tokens (t : Fin cfg1.N) (r : Fin 1024) (d : Fin 2048) :
    Mlp.blk W c 0 t (ix2 r d) = W c (Proc.devRef .tc main_v1_0) (ix2 (token t r) d) := by
  obtain ⟨⟨e0, e1⟩, -⟩ := index_dense t
  refine congrArg (W c (Proc.devRef .tc main_v1_0)) (funext fun a => Fin.ext ?_)
  match a with
  | ⟨0, _⟩ => show win1_0.index t (0 : Fin 2) * 1024 + 1 * r.val = 1024 * (t.val / 16) + r.val; omega
  | ⟨1, _⟩ => show win1_0.index t (1 : Fin 2) * 2048 + 1 * d.val = d.val; omega

/-- The slice of the first dense table at a point. -/
theorem dense_gate (t : Fin cfg1.N) (q : Fin 512) (d : Fin 2048) :
    Mlp.blk W c 1 t (ix2 q d) = W c (Proc.devRef .tc main_arg1) (ix2 (hidden (t.val % 16) (Nat.mod_lt _ (by decide)) q) d) := by
  obtain ⟨-, ⟨e0, e1⟩, -⟩ := index_dense t
  refine congrArg (W c (Proc.devRef .tc main_arg1)) (funext fun a => Fin.ext ?_)
  match a with
  | ⟨0, _⟩ => show win1_1.index t (0 : Fin 2) * 512 + 1 * q.val = t.val % 16 * 512 + q.val; omega
  | ⟨1, _⟩ => show win1_1.index t (1 : Fin 2) * 2048 + 1 * d.val = d.val; omega

/-- The slice of the second dense table at a point. -/
theorem dense_up (t : Fin cfg1.N) (q : Fin 512) (d : Fin 2048) :
    Mlp.blk W c 2 t (ix2 q d) = W c (Proc.devRef .tc main_arg2) (ix2 (hidden (t.val % 16) (Nat.mod_lt _ (by decide)) q) d) := by
  obtain ⟨-, -, ⟨e0, e1⟩, -⟩ := index_dense t
  refine congrArg (W c (Proc.devRef .tc main_arg2)) (funext fun a => Fin.ext ?_)
  match a with
  | ⟨0, _⟩ => show win1_2.index t (0 : Fin 2) * 512 + 1 * q.val = t.val % 16 * 512 + q.val; omega
  | ⟨1, _⟩ => show win1_2.index t (1 : Fin 2) * 2048 + 1 * d.val = d.val; omega

/-- The slice of the third dense table at a point. -/
theorem dense_down (t : Fin cfg1.N) (d : Fin 2048) (q : Fin 512) :
    Mlp.blk W c 3 t (ix2 d q) = W c (Proc.devRef .tc main_arg3) (ix2 d (hidden (t.val % 16) (Nat.mod_lt _ (by decide)) q)) := by
  obtain ⟨-, -, -, ⟨e0, e1⟩, -⟩ := index_dense t
  refine congrArg (W c (Proc.devRef .tc main_arg3)) (funext fun a => Fin.ext ?_)
  match a with
  | ⟨0, _⟩ => show win1_3.index t (0 : Fin 2) * 2048 + 1 * d.val = d.val; omega
  | ⟨1, _⟩ => show win1_3.index t (1 : Fin 2) * 512 + 1 * q.val = t.val % 16 * 512 + q.val; omega

/-- The tile of the experts' weights at a point. -/
theorem dense_weights (t : Fin cfg1.N) (r : Fin 1024) (e : Fin 64) :
    Mlp.blk W c 4 t (ix2 r e) = W c (Proc.devRef .tc main_v1_1) (ix2 (token t r) e) := by
  obtain ⟨-, -, -, -, ⟨e0, e1⟩, -⟩ := index_dense t
  refine congrArg (W c (Proc.devRef .tc main_v1_1)) (funext fun a => Fin.ext ?_)
  match a with
  | ⟨0, _⟩ => show win1_4.index t (0 : Fin 2) * 1024 + 1 * r.val = 1024 * (t.val / 16) + r.val; omega
  | ⟨1, _⟩ => show win1_4.index t (1 : Fin 2) * 64 + 1 * e.val = e.val; omega

/-- The experts' second table at a point. -/
theorem dense_experts (t : Fin cfg1.N) (e : Fin 64) (d : Fin 2048) :
    Mlp.blk W c 5 t (ix2 e d) = W c (Proc.devRef .tc main_arg7) (ix2 e d) := by
  obtain ⟨-, -, -, -, -, e0, e1⟩ := index_dense t
  refine congrArg (W c (Proc.devRef .tc main_arg7)) (funext fun a => Fin.ext ?_)
  match a with
  | ⟨0, _⟩ => show win1_5.index t (0 : Fin 2) * 64 + 1 * e.val = e.val; omega
  | ⟨1, _⟩ => show win1_5.index t (1 : Fin 2) * 2048 + 1 * d.val = d.val; omega

/-- The sum of the products of two lists. -/
def paired {K : ℕ} (f h : Fin K → EReal) : EReal := ∑ k, f k * h k

/-- Lists that agree pair alike. -/
theorem paired_congr {K : ℕ} {f f' h h' : Fin K → EReal} (hf : ∀ k, f k = f' k) (hh : ∀ k, h k = h' k) : paired f h = paired f' h' := by
  rw [funext hf, funext hh]

/-- The experts' part of an entry. -/
def fromExperts (n : Fin 4096) (d : Fin 2048) : EReal :=
  paired (K := 64) (fun e => W c (Proc.devRef .tc main_v1_1) (ix2 n e)) (fun e => W c (Proc.devRef .tc main_arg7) (ix2 e d))

/-- One hidden unit's part of an entry. -/
def fromUnit (n : Fin 4096) (d : Fin 2048) : Fin 8192 → EReal :=
  unit (fun n t => W c (Proc.devRef .tc main_v1_0) (ix2 n t)) (fun j t => W c (Proc.devRef .tc main_arg1) (ix2 j t))
    (fun j t => W c (Proc.devRef .tc main_arg2) (ix2 j t)) (fun d j => W c (Proc.devRef .tc main_arg3) (ix2 d j)) n d

/-- One slice's part of an entry. -/
def fromSlice (n : Fin 4096) (d : Fin 2048) (i : ℕ) : EReal := if h : i < 16 then ∑ q : Fin 512, fromUnit W c n d (hidden i h q) else 0

/-- A tile starts from the experts' part. -/
theorem start_eq (t : Fin cfg1.N) (r : Fin 1024) (d : Fin 2048) :
    Mlp.start W c t (ix2 r d) = fromExperts W c (token t r) d := by
  unfold Mlp.start
  pointwise [k1_pay1]
  exact paired_congr (K := 64) (fun e => dense_weights W c t r e) (fun e => dense_experts W c t e d)

/-- A point adds its slice. -/
theorem add_eq (t : Fin cfg1.N) (acc : Vec Ideal S1024x2048 .f32) (r : Fin 1024) (d : Fin 2048) :
    Mlp.add W c t acc (ix2 r d) = acc (ix2 r d) + fromSlice W c (token t r) d (t.val % 16) := by
  unfold Mlp.add fromSlice
  rw [dif_pos (Nat.mod_lt _ (by decide))]
  pointwise [k1_pay2]
  have hg : ∀ q : Fin 512, paired (K := 2048) (fun k => Mlp.blk W c 0 t (ix2 r k)) (fun k => Mlp.blk W c 1 t (ix2 q k))
      = inner (fun n t => W c (Proc.devRef .tc main_v1_0) (ix2 n t)) (fun j t => W c (Proc.devRef .tc main_arg1) (ix2 j t)) (token t r)
          (hidden (t.val % 16) (Nat.mod_lt _ (by decide)) q) := fun q =>
    paired_congr (K := 2048) (fun k => dense_tokens W c t r k) (fun k => dense_gate W c t q k)
  have hu : ∀ q : Fin 512, paired (K := 2048) (fun k => Mlp.blk W c 0 t (ix2 r k)) (fun k => Mlp.blk W c 2 t (ix2 q k))
      = inner (fun n t => W c (Proc.devRef .tc main_v1_0) (ix2 n t)) (fun j t => W c (Proc.devRef .tc main_arg2) (ix2 j t)) (token t r)
          (hidden (t.val % 16) (Nat.mod_lt _ (by decide)) q) := fun q =>
    paired_congr (K := 2048) (fun k => dense_tokens W c t r k) (fun k => dense_up W c t q k)
  refine congrArg (acc (ix2 r d) + ·) (Finset.sum_congr rfl fun q _ => ?_)
  exact congrArg₂ (· * ·) (congrArg₂ (· * ·) (congrArg silu (hg q)) (hu q)) (dense_down W c t d q)

/-- A tile after a point: the experts' part and the slices so far. -/
theorem tile_eq (t : Fin cfg1.N) (r : Fin 1024) (d : Fin 2048) :
    Mlp.tile W c t.val t.isLt (ix2 r d)
      = fromExperts W c (token t r) d + ∑ i ∈ Finset.range (t.val % 16 + 1), fromSlice W c (token t r) d i := by
  obtain ⟨n, hn⟩ := t
  induction n with
  | zero =>
    rw [Mlp.tile_first W c ⟨0, hn⟩ rfl, add_eq, start_eq]
    simp
  | succ n ih =>
    by_cases h : (n + 1) % 16 = 0
    · rw [Mlp.tile_first W c ⟨n + 1, hn⟩ h, add_eq, start_eq]
      simp only [h, Finset.range_one, Finset.sum_singleton, Nat.zero_add]
    · rw [Mlp.tile_next W c ⟨n + 1, hn⟩ h, add_eq]
      have ih' := ih (Nat.lt_of_succ_lt hn)
      have ht : token ⟨n, Nat.lt_of_succ_lt hn⟩ r = token ⟨n + 1, hn⟩ r := by
        apply Fin.ext
        show 1024 * (n / 16) + r.val = 1024 * ((n + 1) / 16) + r.val
        omega
      rw [ht] at ih'
      refine (congrArg (· + fromSlice W c (token ⟨n + 1, hn⟩ r) d ((n + 1) % 16)) ih').trans ?_
      show _ + ∑ i ∈ Finset.range (n % 16 + 1), _ + _ = _ + ∑ i ∈ Finset.range ((n + 1) % 16 + 1), _
      rw [Finset.sum_range_succ _ ((n + 1) % 16), show (n + 1) % 16 = n % 16 + 1 by omega, add_assoc]

/-- The sixteen slices are the dense layer. -/
theorem slices_eq (n : Fin 4096) (d : Fin 2048) : ∑ i ∈ Finset.range 16, fromSlice W c n d i = ∑ j, fromUnit W c n d j := by
  rw [Finset.sum_range, Fin.sum_univ_tiles 16 512 rfl (fromUnit W c n d)]
  refine Finset.sum_congr rfl fun i _ => ?_
  unfold fromSlice
  rw [dif_pos i.isLt]
  rfl

/-- The second region's result. -/
theorem result_eq (n : Fin 4096) (d : Fin 2048) :
    Mlp.result W c (ix2 n d) = ∑ j, fromUnit W c n d j + fromExperts W c n d := by
  have hp : Mlp.place (ix2 n d) = ix2 (⟨n.val % 1024, Nat.mod_lt _ (by decide)⟩ : Fin 1024) d := by
    funext a
    match a with
    | ⟨0, _⟩ => rfl
    | ⟨1, _⟩ => exact Fin.ext (Nat.mod_eq_of_lt d.isLt)
  have ht : token (Mlp.lastPt (ix2 n d)) ⟨n.val % 1024, Nat.mod_lt _ (by decide)⟩ = n := by
    apply Fin.ext
    show 1024 * ((16 * (n.val / 1024) + 15) / 16) + n.val % 1024 = n.val
    omega
  have hl : (Mlp.lastPt (ix2 n d)).val % 16 + 1 = 16 := by
    show (16 * (n.val / 1024) + 15) % 16 + 1 = 16
    omega
  unfold Mlp.result
  rw [hp, tile_eq, ht, hl, slices_eq, add_comm]

end Cert.Maths
-- ==== Proof.Maths.KernelValue.lean ====
/-
  The kernel's result, entry by entry, as a function of its arguments.
-/
module

public import proofs.«01_k».proof.Proof.Maths.Router
public import proofs.«01_k».proof.Proof.Maths.Dense
public import proofs.«01_k».proof.Proof.KernelIdeal.Run

@[expose] public section

set_option maxRecDepth 16384

noncomputable section

namespace Cert.Maths

open Idealize.ShloMosaic Idealize.ShloMosaic.TcCoe
open Cert.KernelIdeal Cert.KernelIdeal.Gen

variable (m : (ℓ : Loc nD τ sig) → Buf (Elt Ideal) ℓ) (c : Dev nD)

/-- An argument is untouched when the first region is entered. -/
theorem router_arg (r : Ref sig .tc) (h : r ≠ main_v0) : Run.atRouter m c r = m ((c : Thread nD τ).loc r) :=
  (V1_of m c r (by simpa using h)).trans rfl

/-- An array without its leading axis, at an entry. -/
theorem first_axis (a : FVec Ideal S1x4096x2048 .f32) (n : Fin 4096) (t : Fin 2048) :
    shapeCast S4096x2048 a shapeCasts_S1x4096x2048_S4096x2048 (ix2 n t) = a (ix3 (0 : Fin 1) n t) := by
  pointwise []

/-- The tokens the first region reads are the first argument without its leading axis. -/
theorem router_tokens (n : Fin 4096) (t : Fin 2048) :
    Run.atRouter m c (Proc.devRef .tc main_v0) (ix2 n t) = m ((c : Thread nD τ).loc main_arg0) (ix3 (0 : Fin 1) n t) := by
  have e : Run.atRouter m c (Proc.devRef .tc main_v0)
      = shapeCast S4096x2048 (m ((c : Thread nD τ).loc main_arg0)) shapeCasts_S1x4096x2048_S4096x2048 := rfl
  rw [e]
  exact first_axis _ n t

/-- An argument is untouched when the second region is entered. -/
theorem mlp_arg (r : Ref sig .tc) (h0 : r ≠ main_v0) (h1 : r ≠ main_v1_0) (h2 : r ≠ main_v1_1) :
    Run.atMlp m c r = m ((c : Thread nD τ).loc r) := by
  unfold Run.atMlp
  rw [Pipeline.afterRegion_keeps _ _ launch0.win.arr_inj (Router.dat_A _ c) r (fun w hw => by
    subst hw; revert h1 h2; fin_cases w <;> first | exact fun _ _ => rfl | exact fun h1 _ => absurd rfl h1 | exact fun _ h2 => absurd rfl h2)]
  exact router_arg m c r h0

/-- The second region reads the tokens as they came. -/
theorem mlp_tokens : Run.atMlp m c (Proc.devRef .tc main_v1_0) = Router.rounded (Run.atRouter m) c :=
  (Pipeline.afterRegion_arr (Router.dat (Run.atRouter m) c) (Run.atRouter m c) launch0.win.arr_inj 4).trans (Router.final_4 _ c)

/-- It reads the experts' weights the first region left. -/
theorem mlp_weights : Run.atMlp m c (Proc.devRef .tc main_v1_1)
    = Router.routed (Router.gateX (Run.atRouter m) c) (Router.gateY (Run.atRouter m) c) (Router.scores (Run.atRouter m) c) :=
  (Pipeline.afterRegion_arr (Router.dat (Run.atRouter m) c) (Run.atRouter m c) launch0.win.arr_inj 5).trans (Router.final_5 _ c)

/-- The second region leaves its result. -/
theorem end_result : Run.atEnd m c (Proc.devRef .tc main_v2) = Mlp.result (Run.atMlp m) c :=
  (Pipeline.afterRegion_arr (Mlp.dat (Run.atMlp m) c) (Run.atMlp m c) launch1.win.arr_inj 6).trans (Mlp.final_out _ c)

/-- The kernel's result at an entry. -/
theorem kernel_value (n : Fin 4096) (d : Fin 2048) :
    Run.final m c (Proc.devRef .tc main_v3) (ix3 (0 : Fin 1) n d)
      = value (fun n t => m ((c : Thread nD τ).loc main_arg0) (ix3 (0 : Fin 1) n t))
          (fun j t => m ((c : Thread nD τ).loc main_arg1) (ix2 j t)) (fun j t => m ((c : Thread nD τ).loc main_arg2) (ix2 j t))
          (fun d j => m ((c : Thread nD τ).loc main_arg3) (ix2 d j)) (fun e t => m ((c : Thread nD τ).loc main_arg4) (ix2 e t))
          (fun e t => m ((c : Thread nD τ).loc main_arg5) (ix2 e t)) (fun e t => m ((c : Thread nD τ).loc main_arg6) (ix2 e t))
          (fun e t => m ((c : Thread nD τ).loc main_arg7) (ix2 e t)) n d := by
  have e : Run.final m c (Proc.devRef .tc main_v3)
      = shapeCast S1x4096x2048 (Run.atEnd m c (Proc.devRef .tc main_v2)) shapeCasts_S4096x2048_S1x4096x2048 := rfl
  have hx : ∀ n t, Run.atMlp m c (Proc.devRef .tc main_v1_0) (ix2 n t) = m ((c : Thread nD τ).loc main_arg0) (ix3 (0 : Fin 1) n t) := by
    intro n t
    rw [mlp_tokens, rounded_eq, router_tokens]
  rw [e, end_result]
  pointwise []
  rw [result_eq]
  have h1 := mlp_arg m c main_arg1 (by decide) (by decide) (by decide)
  have h2 := mlp_arg m c main_arg2 (by decide) (by decide) (by decide)
  have h3 := mlp_arg m c main_arg3 (by decide) (by decide) (by decide)
  have h7 := mlp_arg m c main_arg7 (by decide) (by decide) (by decide)
  have h4 := router_arg m c main_arg4 (by decide)
  have h5 := router_arg m c main_arg5 (by decide)
  have h6 := router_arg m c main_arg6 (by decide)
  unfold value fromUnit fromExperts
  rw [mlp_weights, h1, h2, h3, h7, funext fun n => funext fun t => hx n t]
  refine congrArg₂ (· + ·) rfl ?_
  refine (contribution_eq (Run.atRouter m) c (fun e d => m ((c : Thread nD τ).loc main_arg7) (ix2 e d)) n d).trans ?_
  rw [h4, h5, h6, funext fun n => funext fun t => router_tokens m c n t]

end Cert.Maths
-- ==== Proof.Maths.TopK.lean ====
/-
  The reference's selection of eight columns of a token: their values and their numbers, in the order of the stable sort.
-/
module

public import proofs.«01_k».proof.Proof.Maths.Combined
public import proofs.«01_k».proof.Proof.Maths.Select

@[expose] public section

set_option maxRecDepth 16384

noncomputable section

namespace Cert.Maths

open Idealize.ShloMosaic
open Cert.ReferenceIdeal Cert.ReferenceIdeal.Gen

/-- The reference's combined log-probabilities, from its two gates. -/
def refCombined (gx gy : FVec Ideal S4096x8 .f32) : FVec Ideal S4096x64 .f32 :=
  shapeCast S4096x64 (addf (broadcastInDim S4096x8x8 ![0, 1, 2] bcast_S4096x8x1_S4096x8x8_0_1_2 (broadcastInDim S4096x8x1 ![0, 1] bcast_S4096x8_S4096x8x1_0_1 gx)) (broadcastInDim S4096x8x8 ![0, 1, 2] bcast_S4096x1x8_S4096x8x8_0_1_2 (broadcastInDim S4096x1x8 ![0, 2] bcast_S4096x8_S4096x1x8_0_2 gy))) shapeCasts_S4096x8x8_S4096x64

/-- Those, entry by entry. -/
theorem refCombined_eq (gx gy : FVec Ideal S4096x8 .f32) (n : Fin 4096) (c : Fin 64) :
    refCombined gx gy (ix2 n c) = gx (ix2 n (hi c)) + gy (ix2 n (lo c)) := by
  pointwise [refCombined]
  rfl

/-- The reference's selection. -/
abbrev chosen (v : FVec Ideal S4096x64 .f32) : FVec Ideal S4096x8 .f32 × IVec S4096x8 32 :=
  Host.topK S4096x8 1 (FloatOps.cmpfTotal .gt) v sliceFits_S4096x64_S4096x8

/-- The column at one of the first eight places of a token. -/
def place (v : FVec Ideal S4096x64 .f32) (n : Fin 4096) (k : Fin 8) : Fin 64 :=
  ranked (fun c => v (ix2 n c)) (k.castLE (by decide))

/-- Replacing the column of an index of a row by column number. -/
theorem along_column (n : Fin 4096) (m k : Fin 64) : (ix2 n m : S4096x64.Idx).along (1 : Fin 2) k = ix2 n k := by
  funext a
  match a with
  | 0 => rfl
  | 1 => rfl

/-- The comparison the selection sorts by is the order's. -/
theorem compares (a b : EReal) : ((FloatOps.cmpfTotal (F := Ideal) (φ := .f32) .gt a b : BitVec 1) == 1#1) = decide (b < a) := by
  by_cases h : b < a <;> simp [FloatOps.cmpfTotal, Ideal.cmpTotal, Ideal.cmp, CmpDirection.ordered, h]

/-- The sort of a row, as the selection spells it. -/
theorem row_sorted (v : FVec Ideal S4096x64 .f32) (n : Fin 4096) (m : Fin 64) :
    sortedFrom (fun k k' : Fin 64 => FloatOps.cmpfTotal .gt (v ((ix2 n m : S4096x64.Idx).along (1 : Fin 2) k))
        (v ((ix2 n m : S4096x64.Idx).along (1 : Fin 2) k')) == 1#1)
      = ranked (fun c => v (ix2 n c)) := by
  rw [← sorted_eq]
  congr 1
  funext k k'
  rw [along_column, along_column]
  exact compares _ _

/-- The word of a column number, from the index that carries it. -/
theorem number_of {i : S4096x64.Idx} {n : Fin 4096} {p q : Fin 64} (hi : i = ix2 n p) (hp : p = q) :
    BitVec.ofNat 32 (i (1 : Fin 2)).val = BitVec.ofNat 32 q.val := by
  subst hi hp
  rfl

/-- The values selected. -/
theorem chosen_value (v : FVec Ideal S4096x64 .f32) (n : Fin 4096) (k : Fin 8) :
    (chosen v).1 (ix2 n k) = v (ix2 n (place v n k)) := by
  unfold chosen Host.topK Host.sort2
  simp only []
  pointwise []
  refine Eq.trans (congrArg v (along_column n _ _)) ?_
  exact congrArg (fun σ : Fin 64 → Fin 64 => v (ix2 n (σ (k.castLE (by decide))))) (row_sorted v n (k.castLE (by decide)))

/-- The numbers of the columns selected. -/
theorem chosen_number (v : FVec Ideal S4096x64 .f32) (n : Fin 4096) (k : Fin 8) :
    (chosen v).2 (ix2 n k) = BitVec.ofNat 32 (place v n k).val := by
  unfold chosen Host.topK Host.sort2
  simp only []
  pointwise []
  exact number_of (along_column n _ _) (congrFun (row_sorted v n (k.castLE (by decide))) (k.castLE (by decide)))

/-- The numbers of the columns selected, as the rows are looked up by them: a number below zero would count from the end. -/
def rows (v : FVec Ideal S4096x64 .f32) : IVec S4096x8x1 32 :=
  broadcastInDim S4096x8x1 ![0, 1] bcast_S4096x8_S4096x8x1_0_1 (select (cmpi .slt (chosen v).2 (broadcastInDim S4096x8 ![] bcast_S_S4096x8 (constantI S_ 32 0#32))) (addi (chosen v).2 (broadcastInDim S4096x8 ![] bcast_S_S4096x8 (constantI S_ 32 64#32))) (chosen v).2)

/-- They are the column numbers. -/
theorem rows_eq (v : FVec Ideal S4096x64 .f32) (n : Fin 4096) (k : Fin 8) :
    rows v (ix3 n k 0) = BitVec.ofNat 32 (place v n k).val := by
  pointwise [rows]
  rw [chosen_number]
  generalize place v n k = p
  have h : ∀ p : Fin 64, Scalar.select (IntOp.cmpi CmpIPredicate.slt (BitVec.ofNat 32 p.val) 0#32)
      (IntOp.addi (BitVec.ofNat 32 p.val) 64#32) (BitVec.ofNat 32 p.val) = BitVec.ofNat 32 p.val := by decide +kernel
  exact h p

/-- The look-up's axes. -/
abbrev lookup : GatherDims S64x2048 S4096x8x1 S4096x8x2048 := gather_S64x2048_S4096x8x1_S4096x8x2048_2_0_n_n_0_2_12048

/-- Where the look-up reads the row number. -/
theorem lookup_number (n : Fin 4096) (k : Fin 8) (d : Fin 2048) (z : Fin lookup.startIndexMap.length) :
    lookup.siIdx (ix3 n k d) z = ix3 n k 0 := by
  funext b
  refine Fin.ext ?_
  match b with
  | 0 => rfl
  | 1 => rfl
  | 2 => exact Nat.lt_one_iff.mp z.isLt

/-- A table looked up by row numbers within it. -/
theorem lookup_eq (a : FVec Ideal S64x2048 .f32) (r : IVec S4096x8x1 32) (n : Fin 4096) (k : Fin 8) (d : Fin 2048) (p : Fin 64)
    (hr : r (ix3 n k 0) = BitVec.ofNat 32 p.val) : Host.gather lookup a r (ix3 n k d) = a (ix2 p d) := by
  have hp : ∀ p : Fin 64, min (BitVec.ofNat 32 p.val).toInt.toNat 63 = p.val := by decide +kernel
  unfold Host.gather
  congr 1
  funext x
  refine Fin.ext ?_
  match x with
  | 0 =>
    show lookup.start (ix3 n k d) r 0 + lookup.batchCoord (ix3 n k d) 0 + lookup.offCoord (ix3 n k d) 0 = p.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ lookup.startIndexMap from List.mem_singleton.mpr rfl), lookup_number, hr]
    exact hp p
  | 1 =>
    show lookup.start (ix3 n k d) r 1 + lookup.batchCoord (ix3 n k d) 1 + lookup.offCoord (ix3 n k d) 1 = d.val
    rw [GatherDims.batchCoord_eq_zero _ _ _ List.not_mem_nil]
    unfold GatherDims.start
    rw [dif_neg (show (1 : Fin 2) ∉ lookup.startIndexMap by decide)]
    unfold GatherDims.offCoord
    rw [dif_pos (show (1 : Fin 2) ∈ lookup.sKept by decide)]
    exact (Nat.zero_add _).trans rfl

/-- The rows looked up are those of the columns selected. -/
theorem looked_up (v : FVec Ideal S4096x64 .f32) (a : FVec Ideal S64x2048 .f32) (n : Fin 4096) (k : Fin 8) (d : Fin 2048) :
    Host.gather lookup a (rows v) (ix3 n k d) = a (ix2 (place v n k) d) :=
  lookup_eq a (rows v) n k d _ (rows_eq v n k)

end Cert.Maths
-- ==== Proof.Maths.Reference.lean ====
/-
  The reference's result, entry by entry.
-/
module

public import proofs.«01_k».proof.Proof.Maths.Spec
public import proofs.«01_k».proof.Proof.Maths.TopK

@[expose] public section

set_option maxRecDepth 16384

noncomputable section

namespace Cert.Maths

open Idealize.ShloMosaic
open Cert.ReferenceIdeal Cert.ReferenceIdeal.Gen

/-- The reference's tokens against the rows of a gate's weights. -/
def refLogits (x : FVec Ideal S4096x2048 .f32) (w : FVec Ideal S8x2048 .f32) : FVec Ideal S4096x8 .f32 :=
  Host.dotGeneral dot_S4096x2048_S2048x8_S4096x8_1_0_0_1_n_n none x (transpose S2048x8 [1, 0] w transposes_S8x2048_S2048x8_1_0)

theorem refLogits_eq (x : FVec Ideal S4096x2048 .f32) (w : FVec Ideal S8x2048 .f32) (n : Fin 4096) (e : Fin 8) :
    refLogits x w (ix2 n e) = inner (fun n t => x (ix2 n t)) (fun e t => w (ix2 e t)) n e := by
  pointwise [refLogits]
  rfl

/-- The reference's combined log-probabilities, from the arguments. -/
def refJoint (x : FVec Ideal S4096x2048 .f32) (kx ky : FVec Ideal S8x2048 .f32) : FVec Ideal S4096x64 .f32 :=
  refCombined (refLogSoftmax (refNormal (refLogits x kx))) (refLogSoftmax (refNormal (refLogits x ky)))

theorem refJoint_eq (x : FVec Ideal S4096x2048 .f32) (kx ky : FVec Ideal S8x2048 .f32) (n : Fin 4096) (c : Fin 64) :
    refJoint x kx ky (ix2 n c)
      = joint (fun n t => x (ix2 n t)) (fun e t => kx (ix2 e t)) (fun e t => ky (ix2 e t)) n c := by
  unfold refJoint
  rw [refCombined_eq, refGate_eq, refGate_eq]
  simp only [refLogits_eq]
  rfl

/-- A number times its logistic, as the reference spells it, at the tokens' hidden units. -/
def refHidden (x : FVec Ideal S4096x2048 .f32) (g : FVec Ideal S8192x2048 .f32) : FVec Ideal S4096x8192 .f32 :=
  Host.dotGeneral dot_S4096x2048_S2048x8192_S4096x8192_1_0_0_1_n_n none x (transpose S2048x8192 [1, 0] g transposes_S8192x2048_S2048x8192_1_0)

theorem refHidden_eq (x : FVec Ideal S4096x2048 .f32) (g : FVec Ideal S8192x2048 .f32) (n : Fin 4096) (j : Fin 8192) :
    refHidden x g (ix2 n j) = inner (fun n t => x (ix2 n t)) (fun e t => g (ix2 e t)) n j := by
  pointwise [refHidden]
  rfl

/-- The reference's dense layer. -/
def refDense (x : FVec Ideal S4096x2048 .f32) (g u : FVec Ideal S8192x2048 .f32) (w : FVec Ideal S2048x8192 .f32) : FVec Ideal S4096x2048 .f32 :=
  Host.dotGeneral dot_S4096x8192_S8192x2048_S4096x2048_1_0_0_1_n_n none (mulf (mulf (refHidden x g) (Host.divf (broadcastInDim S4096x8192 ![] bcast_S_S4096x8192 (constant S_ .f32 0x3F800000#32)) (addf (broadcastInDim S4096x8192 ![] bcast_S_S4096x8192 (constant S_ .f32 0x3F800000#32)) (Host.exp (Host.negf (refHidden x g)))))) (refHidden x u)) (transpose S8192x2048 [1, 0] w transposes_S2048x8192_S8192x2048_1_0)

theorem refDense_eq (x : FVec Ideal S4096x2048 .f32) (g u : FVec Ideal S8192x2048 .f32) (w : FVec Ideal S2048x8192 .f32)
    (n : Fin 4096) (d : Fin 2048) :
    refDense x g u w (ix2 n d) = ∑ j, unit (fun n t => x (ix2 n t)) (fun e t => g (ix2 e t)) (fun e t => u (ix2 e t))
      (fun d j => w (ix2 d j)) n d j := by
  pointwise [refDense]
  simp only [refHidden_eq]
  rfl

/-- The scores of the reference's experts. -/
def refScores (x : FVec Ideal S4096x2048 .f32) (v : FVec Ideal S4096x64 .f32) (up : FVec Ideal S64x2048 .f32) : FVec Ideal S4096x8 .f32 :=
  Host.dotGeneral dot_S4096x2048_S4096x8x2048_S4096x8_1_2_n_1_0_0 none x (Host.gather lookup up (rows v))

theorem refScores_eq (x : FVec Ideal S4096x2048 .f32) (v : FVec Ideal S4096x64 .f32) (up : FVec Ideal S64x2048 .f32)
    (n : Fin 4096) (k : Fin 8) :
    refScores x v up (ix2 n k) = inner (fun n t => x (ix2 n t)) (fun e t => up (ix2 e t)) n (place v n k) := by
  pointwise [refScores]
  simp only [looked_up]
  rfl

/-- The contribution of the reference's experts. -/
def refExperts (x : FVec Ideal S4096x2048 .f32) (v : FVec Ideal S4096x64 .f32) (up down : FVec Ideal S64x2048 .f32) : FVec Ideal S4096x2048 .f32 :=
  Host.dotGeneral dot_S4096x8_S4096x8x2048_S4096x2048_1_1_n_2_0_0 none (mulf (Host.exp (chosen v).1) (mulf (refScores x v up) (Host.divf (broadcastInDim S4096x8 ![] bcast_S_S4096x8 (constant S_ .f32 0x3F800000#32)) (addf (broadcastInDim S4096x8 ![] bcast_S_S4096x8 (constant S_ .f32 0x3F800000#32)) (Host.exp (Host.negf (refScores x v up))))))) (Host.gather lookup down (rows v))

theorem refExperts_eq (x : FVec Ideal S4096x2048 .f32) (kx ky : FVec Ideal S8x2048 .f32) (up down : FVec Ideal S64x2048 .f32)
    (n : Fin 4096) (d : Fin 2048) :
    refExperts x (refJoint x kx ky) up down (ix2 n d) = experts (fun n t => x (ix2 n t)) (fun e t => kx (ix2 e t))
      (fun e t => ky (ix2 e t)) (fun e t => up (ix2 e t)) (fun e t => down (ix2 e t)) n d := by
  have hp : ∀ k, place (refJoint x kx ky) n k
      = expert (fun n t => x (ix2 n t)) (fun e t => kx (ix2 e t)) (fun e t => ky (ix2 e t)) n k := by
    intro k
    unfold place expert
    rw [show (fun c => refJoint x kx ky (ix2 n c)) = joint (fun n t => x (ix2 n t)) (fun e t => kx (ix2 e t)) (fun e t => ky (ix2 e t)) n
      from funext fun c => refJoint_eq x kx ky n c]
  pointwise [refExperts]
  simp only [chosen_value, refScores_eq, looked_up, refJoint_eq, hp]
  rfl

end Cert.Maths
-- ==== Proof.Algebraic.lean ====
/-
  At extended reals the kernel and the reference leave the same result from the same arguments.
-/
module

public import proofs.«01_k».proof.Defs
public import proofs.«01_k».proof.Proof.Frames
public import proofs.«01_k».proof.Proof.Maths.KernelValue
public import proofs.«01_k».proof.Proof.Maths.Reference
public import proofs.«01_k».proof.Proof.Gen.ReferenceIdeal.Run

@[expose] public section

set_option maxRecDepth 16384

noncomputable section

namespace Cert.Algebraic

open Idealize.ShloMosaic Idealize.ShloMosaic.TcCoe Idealize.SL.Sem
open Cert.ReferenceIdeal Cert.ReferenceIdeal.Gen Cert.Maths

/-- The reference's result as a function of its arguments. -/
def refOut (a0 : FVec Ideal S1x4096x2048 .f32) (a1 a2 : FVec Ideal S8192x2048 .f32) (a3 : FVec Ideal S2048x8192 .f32)
    (a4 a5 : FVec Ideal S8x2048 .f32) (a6 a7 : FVec Ideal S64x2048 .f32) : FVec Ideal S1x4096x2048 .f32 :=
  shapeCast S1x4096x2048
    (addf (refDense (shapeCast S4096x2048 a0 shapeCasts_S1x4096x2048_S4096x2048) a1 a2 a3)
      (refExperts (shapeCast S4096x2048 a0 shapeCasts_S1x4096x2048_S4096x2048)
        (refJoint (shapeCast S4096x2048 a0 shapeCasts_S1x4096x2048_S4096x2048) a4 a5) a6 a7))
    shapeCasts_S4096x2048_S1x4096x2048

/-- The reference's result at an entry. -/
theorem refOut_eq (a0 : FVec Ideal S1x4096x2048 .f32) (a1 a2 : FVec Ideal S8192x2048 .f32) (a3 : FVec Ideal S2048x8192 .f32)
    (a4 a5 : FVec Ideal S8x2048 .f32) (a6 a7 : FVec Ideal S64x2048 .f32) (n : Fin 4096) (d : Fin 2048) :
    refOut a0 a1 a2 a3 a4 a5 a6 a7 (ix3 (0 : Fin 1) n d)
      = value (fun n t => a0 (ix3 (0 : Fin 1) n t)) (fun j t => a1 (ix2 j t)) (fun j t => a2 (ix2 j t)) (fun d j => a3 (ix2 d j))
          (fun e t => a4 (ix2 e t)) (fun e t => a5 (ix2 e t)) (fun e t => a6 (ix2 e t)) (fun e t => a7 (ix2 e t)) n d := by
  have hx : ∀ n t, shapeCast S4096x2048 a0 shapeCasts_S1x4096x2048_S4096x2048 (ix2 n t) = a0 (ix3 (0 : Fin 1) n t) := by
    intro n t
    pointwise []
  pointwise [refOut]
  rw [refDense_eq, refExperts_eq]
  simp only [hx]
  rfl

/-- The reference runs and leaves that result, its arguments as they were. -/
theorem reference (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v67)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans rfl, (h c).2⟩) (Cert.ReferenceIdeal.Value.run m g)

/-- The two programs leave the same result. -/
theorem claim : Cert.algebraic_KernelIdeal_ReferenceIdeal (hKernelIdeal := Cert.KernelIdeal.Gen.facts)
    (hReferenceIdeal := Cert.ReferenceIdeal.Gen.facts) := by
  intro m g m' g' _ hm
  refine ⟨fun c => Cert.KernelIdeal.Run.final m c (Proc.devRef .tc Cert.KernelIdeal.main_v3), ?_, ?_⟩
  · exact (θ_run Cert.KernelIdeal.defs _ _).mono (fun r h c =>
      ⟨h.1 c _ (Finset.mem_filter.mpr ⟨StableHlo.devRef_mem_tcRefs _, by simpa using (rfl : Cert.KernelIdeal.main_v3.isScoped = false)⟩),
       Frames.ideal_arg m c Cert.KernelIdeal.main_arg0 rfl (by decide) (h.1 c), Frames.ideal_arg m c Cert.KernelIdeal.main_arg1 rfl (by decide) (h.1 c),
       Frames.ideal_arg m c Cert.KernelIdeal.main_arg2 rfl (by decide) (h.1 c), Frames.ideal_arg m c Cert.KernelIdeal.main_arg3 rfl (by decide) (h.1 c),
       Frames.ideal_arg m c Cert.KernelIdeal.main_arg4 rfl (by decide) (h.1 c), Frames.ideal_arg m c Cert.KernelIdeal.main_arg5 rfl (by decide) (h.1 c),
       Frames.ideal_arg m c Cert.KernelIdeal.main_arg6 rfl (by decide) (h.1 c), Frames.ideal_arg m c Cert.KernelIdeal.main_arg7 rfl (by decide) (h.1 c)⟩)
      (Cert.KernelIdeal.Run.run m g)
  · refine (θ_run defs _ _).mono (fun r h c => ⟨(h c).1.trans ?_, (h c).2⟩) (reference m' g')
    obtain ⟨h0, h1, h2, h3, h4, h5, h6, h7⟩ := hm c
    rw [h0, h1, h2, h3, h4, h5, h6, h7]
    funext i
    obtain ⟨z, n, d, rfl⟩ : ∃ (z : Fin 1) (n : Fin 4096) (d : Fin 2048), i = ix3 z n d := ⟨i 0, i 1, i 2, by
      funext a
      match a with
      | ⟨0, _⟩ => rfl
      | ⟨1, _⟩ => rfl
      | ⟨2, _⟩ => rfl⟩
    obtain rfl := Subsingleton.elim z 0
    exact (refOut_eq _ _ _ _ _ _ _ _ n d).trans (kernel_value m c n d).symm

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Frames.kernel, Frames.kernelIdeal, Frames.referenceIdeal, trivial, Algebraic.claim⟩

end Cert.Proof

end
